-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![4096, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![4096, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S32x128x128 : Shape := ⟨3, ![32, 128, 128]⟩
abbrev S2x32 : Shape := ⟨2, ![2, 32]⟩
abbrev S_ : Shape := ⟨0, ![]⟩
abbrev S1x128x128 : Shape := ⟨3, ![1, 128, 128]⟩
abbrev S1x1 : Shape := ⟨2, ![1, 1]⟩
abbrev S7x128x128 : Shape := ⟨3, ![7, 128, 128]⟩
abbrev S896x128 : Shape := ⟨2, ![896, 128]⟩
abbrev S896x256 : Shape := ⟨2, ![896, 256]⟩
abbrev S8x128x128 : Shape := ⟨3, ![8, 128, 128]⟩
abbrev S1024x128 : Shape := ⟨2, ![1024, 128]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S32x128x128, .bf16⟩
  | .local _ .vmem, ⟨9, _⟩ => ⟨S32x128x128, .bf16⟩
  | .local _ .vmem, ⟨10, _⟩ => ⟨S32x128x128, .bf16⟩
  | _, _ => ⟨S128x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_133 : BitVec 32 := 1#32
  let v138 : BitVec 32 := Scalar.addi v2 c1_i32_133
  let c32_i32_134 : BitVec 32 := 32#32
  let v139 : BitVec 32 := Scalar.remsi v138 c32_i32_134
  let c1_i32_141 : BitVec 32 := 1#32
  let v140 : BitVec 32 := Scalar.muli v139 c1_i32_141
  let v141 : BitVec 32 := Scalar.addi c0_i32_142 v140
  v141.toNat
def k0_dev33 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_147 : BitVec 32 := 2#32
  let v150 : BitVec 32 := Scalar.addi v2 c2_i32_147
  let c32_i32_148 : BitVec 32 := 32#32
  let v151 : BitVec 32 := Scalar.remsi v150 c32_i32_148
  let c1_i32_155 : BitVec 32 := 1#32
  let v152 : BitVec 32 := Scalar.muli v151 c1_i32_155
  let v153 : BitVec 32 := Scalar.addi c0_i32_156 v152
  v153.toNat
def k0_dev34 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_161 : BitVec 32 := 3#32
  let v162 : BitVec 32 := Scalar.addi v2 c3_i32_161
  let c32_i32_162 : BitVec 32 := 32#32
  let v163 : BitVec 32 := Scalar.remsi v162 c32_i32_162
  let c1_i32_169 : BitVec 32 := 1#32
  let v164 : BitVec 32 := Scalar.muli v163 c1_i32_169
  let v165 : BitVec 32 := Scalar.addi c0_i32_170 v164
  v165.toNat
def k0_dev35 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_175 : BitVec 32 := 4#32
  let v174 : BitVec 32 := Scalar.addi v2 c4_i32_175
  let c32_i32_176 : BitVec 32 := 32#32
  let v175 : BitVec 32 := Scalar.remsi v174 c32_i32_176
  let c1_i32_183 : BitVec 32 := 1#32
  let v176 : BitVec 32 := Scalar.muli v175 c1_i32_183
  let v177 : BitVec 32 := Scalar.addi c0_i32_184 v176
  v177.toNat
def k0_dev36 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_189 : BitVec 32 := 5#32
  let v186 : BitVec 32 := Scalar.addi v2 c5_i32_189
  let c32_i32_190 : BitVec 32 := 32#32
  let v187 : BitVec 32 := Scalar.remsi v186 c32_i32_190
  let c1_i32_197 : BitVec 32 := 1#32
  let v188 : BitVec 32 := Scalar.muli v187 c1_i32_197
  let v189 : BitVec 32 := Scalar.addi c0_i32_198 v188
  v189.toNat
def k0_dev37 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_203 : BitVec 32 := 6#32
  let v198 : BitVec 32 := Scalar.addi v2 c6_i32_203
  let c32_i32_204 : BitVec 32 := 32#32
  let v199 : BitVec 32 := Scalar.remsi v198 c32_i32_204
  let c1_i32_211 : BitVec 32 := 1#32
  let v200 : BitVec 32 := Scalar.muli v199 c1_i32_211
  let v201 : BitVec 32 := Scalar.addi c0_i32_212 v200
  v201.toNat
def k0_dev38 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_217 : BitVec 32 := 7#32
  let v210 : BitVec 32 := Scalar.addi v2 c7_i32_217
  let c32_i32_218 : BitVec 32 := 32#32
  let v211 : BitVec 32 := Scalar.remsi v210 c32_i32_218
  let c1_i32_225 : BitVec 32 := 1#32
  let v212 : BitVec 32 := Scalar.muli v211 c1_i32_225
  let v213 : BitVec 32 := Scalar.addi c0_i32_226 v212
  v213.toNat
def k0_dev39 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_231 : BitVec 32 := 8#32
  let v222 : BitVec 32 := Scalar.addi v2 c8_i32_231
  let c32_i32_232 : BitVec 32 := 32#32
  let v223 : BitVec 32 := Scalar.remsi v222 c32_i32_232
  let c1_i32_239 : BitVec 32 := 1#32
  let v224 : BitVec 32 := Scalar.muli v223 c1_i32_239
  let v225 : BitVec 32 := Scalar.addi c0_i32_240 v224
  v225.toNat
def k0_dev40 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_245 : BitVec 32 := 9#32
  let v234 : BitVec 32 := Scalar.addi v2 c9_i32_245
  let c32_i32_246 : BitVec 32 := 32#32
  let v235 : BitVec 32 := Scalar.remsi v234 c32_i32_246
  let c1_i32_253 : BitVec 32 := 1#32
  let v236 : BitVec 32 := Scalar.muli v235 c1_i32_253
  let v237 : BitVec 32 := Scalar.addi c0_i32_254 v236
  v237.toNat
def k0_dev41 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_259 : BitVec 32 := 10#32
  let v246 : BitVec 32 := Scalar.addi v2 c10_i32_259
  let c32_i32_260 : BitVec 32 := 32#32
  let v247 : BitVec 32 := Scalar.remsi v246 c32_i32_260
  let c1_i32_267 : BitVec 32 := 1#32
  let v248 : BitVec 32 := Scalar.muli v247 c1_i32_267
  let v249 : BitVec 32 := Scalar.addi c0_i32_268 v248
  v249.toNat
def k0_dev42 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_273 : BitVec 32 := 11#32
  let v258 : BitVec 32 := Scalar.addi v2 c11_i32_273
  let c32_i32_274 : BitVec 32 := 32#32
  let v259 : BitVec 32 := Scalar.remsi v258 c32_i32_274
  let c1_i32_281 : BitVec 32 := 1#32
  let v260 : BitVec 32 := Scalar.muli v259 c1_i32_281
  let v261 : BitVec 32 := Scalar.addi c0_i32_282 v260
  v261.toNat
def k0_dev43 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_287 : BitVec 32 := 12#32
  let v270 : BitVec 32 := Scalar.addi v2 c12_i32_287
  let c32_i32_288 : BitVec 32 := 32#32
  let v271 : BitVec 32 := Scalar.remsi v270 c32_i32_288
  let c1_i32_295 : BitVec 32 := 1#32
  let v272 : BitVec 32 := Scalar.muli v271 c1_i32_295
  let v273 : BitVec 32 := Scalar.addi c0_i32_296 v272
  v273.toNat
def k0_dev44 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_301 : BitVec 32 := 13#32
  let v282 : BitVec 32 := Scalar.addi v2 c13_i32_301
  let c32_i32_302 : BitVec 32 := 32#32
  let v283 : BitVec 32 := Scalar.remsi v282 c32_i32_302
  let c1_i32_309 : BitVec 32 := 1#32
  let v284 : BitVec 32 := Scalar.muli v283 c1_i32_309
  let v285 : BitVec 32 := Scalar.addi c0_i32_310 v284
  v285.toNat
def k0_dev45 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_315 : BitVec 32 := 14#32
  let v294 : BitVec 32 := Scalar.addi v2 c14_i32_315
  let c32_i32_316 : BitVec 32 := 32#32
  let v295 : BitVec 32 := Scalar.remsi v294 c32_i32_316
  let c1_i32_323 : BitVec 32 := 1#32
  let v296 : BitVec 32 := Scalar.muli v295 c1_i32_323
  let v297 : BitVec 32 := Scalar.addi c0_i32_324 v296
  v297.toNat
def k0_dev46 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_329 : BitVec 32 := 15#32
  let v306 : BitVec 32 := Scalar.addi v2 c15_i32_329
  let c32_i32_330 : BitVec 32 := 32#32
  let v307 : BitVec 32 := Scalar.remsi v306 c32_i32_330
  let c1_i32_337 : BitVec 32 := 1#32
  let v308 : BitVec 32 := Scalar.muli v307 c1_i32_337
  let v309 : BitVec 32 := Scalar.addi c0_i32_338 v308
  v309.toNat
def k0_dev47 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_343 : BitVec 32 := 16#32
  let v318 : BitVec 32 := Scalar.addi v2 c16_i32_343
  let c32_i32_344 : BitVec 32 := 32#32
  let v319 : BitVec 32 := Scalar.remsi v318 c32_i32_344
  let c1_i32_351 : BitVec 32 := 1#32
  let v320 : BitVec 32 := Scalar.muli v319 c1_i32_351
  let v321 : BitVec 32 := Scalar.addi c0_i32_352 v320
  v321.toNat
def k0_dev48 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_357 : BitVec 32 := 17#32
  let v330 : BitVec 32 := Scalar.addi v2 c17_i32_357
  let c32_i32_358 : BitVec 32 := 32#32
  let v331 : BitVec 32 := Scalar.remsi v330 c32_i32_358
  let c1_i32_365 : BitVec 32 := 1#32
  let v332 : BitVec 32 := Scalar.muli v331 c1_i32_365
  let v333 : BitVec 32 := Scalar.addi c0_i32_366 v332
  v333.toNat
def k0_dev49 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_371 : BitVec 32 := 18#32
  let v342 : BitVec 32 := Scalar.addi v2 c18_i32_371
  let c32_i32_372 : BitVec 32 := 32#32
  let v343 : BitVec 32 := Scalar.remsi v342 c32_i32_372
  let c1_i32_379 : BitVec 32 := 1#32
  let v344 : BitVec 32 := Scalar.muli v343 c1_i32_379
  let v345 : BitVec 32 := Scalar.addi c0_i32_380 v344
  v345.toNat
def k0_dev50 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_385 : BitVec 32 := 19#32
  let v354 : BitVec 32 := Scalar.addi v2 c19_i32_385
  let c32_i32_386 : BitVec 32 := 32#32
  let v355 : BitVec 32 := Scalar.remsi v354 c32_i32_386
  let c1_i32_393 : BitVec 32 := 1#32
  let v356 : BitVec 32 := Scalar.muli v355 c1_i32_393
  let v357 : BitVec 32 := Scalar.addi c0_i32_394 v356
  v357.toNat
def k0_dev51 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_399 : BitVec 32 := 20#32
  let v366 : BitVec 32 := Scalar.addi v2 c20_i32_399
  let c32_i32_400 : BitVec 32 := 32#32
  let v367 : BitVec 32 := Scalar.remsi v366 c32_i32_400
  let c1_i32_407 : BitVec 32 := 1#32
  let v368 : BitVec 32 := Scalar.muli v367 c1_i32_407
  let v369 : BitVec 32 := Scalar.addi c0_i32_408 v368
  v369.toNat
def k0_dev52 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_413 : BitVec 32 := 21#32
  let v378 : BitVec 32 := Scalar.addi v2 c21_i32_413
  let c32_i32_414 : BitVec 32 := 32#32
  let v379 : BitVec 32 := Scalar.remsi v378 c32_i32_414
  let c1_i32_421 : BitVec 32 := 1#32
  let v380 : BitVec 32 := Scalar.muli v379 c1_i32_421
  let v381 : BitVec 32 := Scalar.addi c0_i32_422 v380
  v381.toNat
def k0_dev53 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_427 : BitVec 32 := 22#32
  let v390 : BitVec 32 := Scalar.addi v2 c22_i32_427
  let c32_i32_428 : BitVec 32 := 32#32
  let v391 : BitVec 32 := Scalar.remsi v390 c32_i32_428
  let c1_i32_435 : BitVec 32 := 1#32
  let v392 : BitVec 32 := Scalar.muli v391 c1_i32_435
  let v393 : BitVec 32 := Scalar.addi c0_i32_436 v392
  v393.toNat
def k0_dev54 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_441 : BitVec 32 := 23#32
  let v402 : BitVec 32 := Scalar.addi v2 c23_i32_441
  let c32_i32_442 : BitVec 32 := 32#32
  let v403 : BitVec 32 := Scalar.remsi v402 c32_i32_442
  let c1_i32_449 : BitVec 32 := 1#32
  let v404 : BitVec 32 := Scalar.muli v403 c1_i32_449
  let v405 : BitVec 32 := Scalar.addi c0_i32_450 v404
  v405.toNat
def k0_dev55 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_455 : BitVec 32 := 24#32
  let v414 : BitVec 32 := Scalar.addi v2 c24_i32_455
  let c32_i32_456 : BitVec 32 := 32#32
  let v415 : BitVec 32 := Scalar.remsi v414 c32_i32_456
  let c1_i32_463 : BitVec 32 := 1#32
  let v416 : BitVec 32 := Scalar.muli v415 c1_i32_463
  let v417 : BitVec 32 := Scalar.addi c0_i32_464 v416
  v417.toNat
def k0_dev56 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_469 : BitVec 32 := 25#32
  let v426 : BitVec 32 := Scalar.addi v2 c25_i32_469
  let c32_i32_470 : BitVec 32 := 32#32
  let v427 : BitVec 32 := Scalar.remsi v426 c32_i32_470
  let c1_i32_477 : BitVec 32 := 1#32
  let v428 : BitVec 32 := Scalar.muli v427 c1_i32_477
  let v429 : BitVec 32 := Scalar.addi c0_i32_478 v428
  v429.toNat
def k0_dev57 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_483 : BitVec 32 := 26#32
  let v438 : BitVec 32 := Scalar.addi v2 c26_i32_483
  let c32_i32_484 : BitVec 32 := 32#32
  let v439 : BitVec 32 := Scalar.remsi v438 c32_i32_484
  let c1_i32_491 : BitVec 32 := 1#32
  let v440 : BitVec 32 := Scalar.muli v439 c1_i32_491
  let v441 : BitVec 32 := Scalar.addi c0_i32_492 v440
  v441.toNat
def k0_dev58 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_497 : BitVec 32 := 27#32
  let v450 : BitVec 32 := Scalar.addi v2 c27_i32_497
  let c32_i32_498 : BitVec 32 := 32#32
  let v451 : BitVec 32 := Scalar.remsi v450 c32_i32_498
  let c1_i32_505 : BitVec 32 := 1#32
  let v452 : BitVec 32 := Scalar.muli v451 c1_i32_505
  let v453 : BitVec 32 := Scalar.addi c0_i32_506 v452
  v453.toNat
def k0_dev59 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_511 : BitVec 32 := 28#32
  let v462 : BitVec 32 := Scalar.addi v2 c28_i32_511
  let c32_i32_512 : BitVec 32 := 32#32
  let v463 : BitVec 32 := Scalar.remsi v462 c32_i32_512
  let c1_i32_519 : BitVec 32 := 1#32
  let v464 : BitVec 32 := Scalar.muli v463 c1_i32_519
  let v465 : BitVec 32 := Scalar.addi c0_i32_520 v464
  v465.toNat
def k0_dev60 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_525 : BitVec 32 := 29#32
  let v474 : BitVec 32 := Scalar.addi v2 c29_i32_525
  let c32_i32_526 : BitVec 32 := 32#32
  let v475 : BitVec 32 := Scalar.remsi v474 c32_i32_526
  let c1_i32_533 : BitVec 32 := 1#32
  let v476 : BitVec 32 := Scalar.muli v475 c1_i32_533
  let v477 : BitVec 32 := Scalar.addi c0_i32_534 v476
  v477.toNat
def k0_dev61 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_539 : BitVec 32 := 30#32
  let v486 : BitVec 32 := Scalar.addi v2 c30_i32_539
  let c32_i32_540 : BitVec 32 := 32#32
  let v487 : BitVec 32 := Scalar.remsi v486 c32_i32_540
  let c1_i32_547 : BitVec 32 := 1#32
  let v488 : BitVec 32 := Scalar.muli v487 c1_i32_547
  let v489 : BitVec 32 := Scalar.addi c0_i32_548 v488
  v489.toNat
def k0_dev62 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_553 : BitVec 32 := 31#32
  let v498 : BitVec 32 := Scalar.addi v2 c31_i32_553
  let c32_i32_554 : BitVec 32 := 32#32
  let v499 : BitVec 32 := Scalar.remsi v498 c32_i32_554
  let c1_i32_561 : BitVec 32 := 1#32
  let v500 : BitVec 32 := Scalar.muli v499 c1_i32_561
  let v501 : BitVec 32 := Scalar.addi c0_i32_562 v500
  v501.toNat
def k0_dev63 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_667 : BitVec 32 := 1#32
  let v590 : BitVec 32 := Scalar.addi v2 c1_i32_667
  let c32_i32_668 : BitVec 32 := 32#32
  let v591 : BitVec 32 := Scalar.remsi v590 c32_i32_668
  let c1_i32_675 : BitVec 32 := 1#32
  let v592 : BitVec 32 := Scalar.muli v591 c1_i32_675
  let v593 : BitVec 32 := Scalar.addi c0_i32_676 v592
  v593.toNat
def k0_dev64 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_681 : BitVec 32 := 2#32
  let v602 : BitVec 32 := Scalar.addi v2 c2_i32_681
  let c32_i32_682 : BitVec 32 := 32#32
  let v603 : BitVec 32 := Scalar.remsi v602 c32_i32_682
  let c1_i32_689 : BitVec 32 := 1#32
  let v604 : BitVec 32 := Scalar.muli v603 c1_i32_689
  let v605 : BitVec 32 := Scalar.addi c0_i32_690 v604
  v605.toNat
def k0_dev65 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_695 : BitVec 32 := 3#32
  let v614 : BitVec 32 := Scalar.addi v2 c3_i32_695
  let c32_i32_696 : BitVec 32 := 32#32
  let v615 : BitVec 32 := Scalar.remsi v614 c32_i32_696
  let c1_i32_703 : BitVec 32 := 1#32
  let v616 : BitVec 32 := Scalar.muli v615 c1_i32_703
  let v617 : BitVec 32 := Scalar.addi c0_i32_704 v616
  v617.toNat
def k0_dev66 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_709 : BitVec 32 := 4#32
  let v626 : BitVec 32 := Scalar.addi v2 c4_i32_709
  let c32_i32_710 : BitVec 32 := 32#32
  let v627 : BitVec 32 := Scalar.remsi v626 c32_i32_710
  let c1_i32_717 : BitVec 32 := 1#32
  let v628 : BitVec 32 := Scalar.muli v627 c1_i32_717
  let v629 : BitVec 32 := Scalar.addi c0_i32_718 v628
  v629.toNat
def k0_dev67 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_723 : BitVec 32 := 5#32
  let v638 : BitVec 32 := Scalar.addi v2 c5_i32_723
  let c32_i32_724 : BitVec 32 := 32#32
  let v639 : BitVec 32 := Scalar.remsi v638 c32_i32_724
  let c1_i32_731 : BitVec 32 := 1#32
  let v640 : BitVec 32 := Scalar.muli v639 c1_i32_731
  let v641 : BitVec 32 := Scalar.addi c0_i32_732 v640
  v641.toNat
def k0_dev68 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_737 : BitVec 32 := 6#32
  let v650 : BitVec 32 := Scalar.addi v2 c6_i32_737
  let c32_i32_738 : BitVec 32 := 32#32
  let v651 : BitVec 32 := Scalar.remsi v650 c32_i32_738
  let c1_i32_745 : BitVec 32 := 1#32
  let v652 : BitVec 32 := Scalar.muli v651 c1_i32_745
  let v653 : BitVec 32 := Scalar.addi c0_i32_746 v652
  v653.toNat
def k0_dev69 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_751 : BitVec 32 := 7#32
  let v662 : BitVec 32 := Scalar.addi v2 c7_i32_751
  let c32_i32_752 : BitVec 32 := 32#32
  let v663 : BitVec 32 := Scalar.remsi v662 c32_i32_752
  let c1_i32_759 : BitVec 32 := 1#32
  let v664 : BitVec 32 := Scalar.muli v663 c1_i32_759
  let v665 : BitVec 32 := Scalar.addi c0_i32_760 v664
  v665.toNat
def k0_dev70 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_869 : BitVec 32 := 8#32
  let v750 : BitVec 32 := Scalar.addi v2 c8_i32_869
  let c32_i32_870 : BitVec 32 := 32#32
  let v751 : BitVec 32 := Scalar.remsi v750 c32_i32_870
  let c1_i32_877 : BitVec 32 := 1#32
  let v752 : BitVec 32 := Scalar.muli v751 c1_i32_877
  let v753 : BitVec 32 := Scalar.addi c0_i32_878 v752
  v753.toNat
def k0_dev71 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_883 : BitVec 32 := 9#32
  let v762 : BitVec 32 := Scalar.addi v2 c9_i32_883
  let c32_i32_884 : BitVec 32 := 32#32
  let v763 : BitVec 32 := Scalar.remsi v762 c32_i32_884
  let c1_i32_891 : BitVec 32 := 1#32
  let v764 : BitVec 32 := Scalar.muli v763 c1_i32_891
  let v765 : BitVec 32 := Scalar.addi c0_i32_892 v764
  v765.toNat
def k0_dev72 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_897 : BitVec 32 := 10#32
  let v774 : BitVec 32 := Scalar.addi v2 c10_i32_897
  let c32_i32_898 : BitVec 32 := 32#32
  let v775 : BitVec 32 := Scalar.remsi v774 c32_i32_898
  let c1_i32_905 : BitVec 32 := 1#32
  let v776 : BitVec 32 := Scalar.muli v775 c1_i32_905
  let v777 : BitVec 32 := Scalar.addi c0_i32_906 v776
  v777.toNat
def k0_dev73 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_911 : BitVec 32 := 11#32
  let v786 : BitVec 32 := Scalar.addi v2 c11_i32_911
  let c32_i32_912 : BitVec 32 := 32#32
  let v787 : BitVec 32 := Scalar.remsi v786 c32_i32_912
  let c1_i32_919 : BitVec 32 := 1#32
  let v788 : BitVec 32 := Scalar.muli v787 c1_i32_919
  let v789 : BitVec 32 := Scalar.addi c0_i32_920 v788
  v789.toNat
def k0_dev74 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_925 : BitVec 32 := 12#32
  let v798 : BitVec 32 := Scalar.addi v2 c12_i32_925
  let c32_i32_926 : BitVec 32 := 32#32
  let v799 : BitVec 32 := Scalar.remsi v798 c32_i32_926
  let c1_i32_933 : BitVec 32 := 1#32
  let v800 : BitVec 32 := Scalar.muli v799 c1_i32_933
  let v801 : BitVec 32 := Scalar.addi c0_i32_934 v800
  v801.toNat
def k0_dev75 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_939 : BitVec 32 := 13#32
  let v810 : BitVec 32 := Scalar.addi v2 c13_i32_939
  let c32_i32_940 : BitVec 32 := 32#32
  let v811 : BitVec 32 := Scalar.remsi v810 c32_i32_940
  let c1_i32_947 : BitVec 32 := 1#32
  let v812 : BitVec 32 := Scalar.muli v811 c1_i32_947
  let v813 : BitVec 32 := Scalar.addi c0_i32_948 v812
  v813.toNat
def k0_dev76 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_953 : BitVec 32 := 14#32
  let v822 : BitVec 32 := Scalar.addi v2 c14_i32_953
  let c32_i32_954 : BitVec 32 := 32#32
  let v823 : BitVec 32 := Scalar.remsi v822 c32_i32_954
  let c1_i32_961 : BitVec 32 := 1#32
  let v824 : BitVec 32 := Scalar.muli v823 c1_i32_961
  let v825 : BitVec 32 := Scalar.addi c0_i32_962 v824
  v825.toNat
def k0_dev77 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_967 : BitVec 32 := 15#32
  let v834 : BitVec 32 := Scalar.addi v2 c15_i32_967
  let c32_i32_968 : BitVec 32 := 32#32
  let v835 : BitVec 32 := Scalar.remsi v834 c32_i32_968
  let c1_i32_975 : BitVec 32 := 1#32
  let v836 : BitVec 32 := Scalar.muli v835 c1_i32_975
  let v837 : BitVec 32 := Scalar.addi c0_i32_976 v836
  v837.toNat
def k0_dev78 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1085 : BitVec 32 := 16#32
  let v922 : BitVec 32 := Scalar.addi v2 c16_i32_1085
  let c32_i32_1086 : BitVec 32 := 32#32
  let v923 : BitVec 32 := Scalar.remsi v922 c32_i32_1086
  let c1_i32_1093 : BitVec 32 := 1#32
  let v924 : BitVec 32 := Scalar.muli v923 c1_i32_1093
  let v925 : BitVec 32 := Scalar.addi c0_i32_1094 v924
  v925.toNat
def k0_dev79 (d0 : Dev nD) : Nat :=
  let c0_i32_1108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1099 : BitVec 32 := 17#32
  let v934 : BitVec 32 := Scalar.addi v2 c17_i32_1099
  let c32_i32_1100 : BitVec 32 := 32#32
  let v935 : BitVec 32 := Scalar.remsi v934 c32_i32_1100
  let c1_i32_1107 : BitVec 32 := 1#32
  let v936 : BitVec 32 := Scalar.muli v935 c1_i32_1107
  let v937 : BitVec 32 := Scalar.addi c0_i32_1108 v936
  v937.toNat
def k0_dev80 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1113 : BitVec 32 := 18#32
  let v946 : BitVec 32 := Scalar.addi v2 c18_i32_1113
  let c32_i32_1114 : BitVec 32 := 32#32
  let v947 : BitVec 32 := Scalar.remsi v946 c32_i32_1114
  let c1_i32_1121 : BitVec 32 := 1#32
  let v948 : BitVec 32 := Scalar.muli v947 c1_i32_1121
  let v949 : BitVec 32 := Scalar.addi c0_i32_1122 v948
  v949.toNat
def k0_dev81 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1127 : BitVec 32 := 19#32
  let v958 : BitVec 32 := Scalar.addi v2 c19_i32_1127
  let c32_i32_1128 : BitVec 32 := 32#32
  let v959 : BitVec 32 := Scalar.remsi v958 c32_i32_1128
  let c1_i32_1135 : BitVec 32 := 1#32
  let v960 : BitVec 32 := Scalar.muli v959 c1_i32_1135
  let v961 : BitVec 32 := Scalar.addi c0_i32_1136 v960
  v961.toNat
def k0_dev82 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1141 : BitVec 32 := 20#32
  let v970 : BitVec 32 := Scalar.addi v2 c20_i32_1141
  let c32_i32_1142 : BitVec 32 := 32#32
  let v971 : BitVec 32 := Scalar.remsi v970 c32_i32_1142
  let c1_i32_1149 : BitVec 32 := 1#32
  let v972 : BitVec 32 := Scalar.muli v971 c1_i32_1149
  let v973 : BitVec 32 := Scalar.addi c0_i32_1150 v972
  v973.toNat
def k0_dev83 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1155 : BitVec 32 := 21#32
  let v982 : BitVec 32 := Scalar.addi v2 c21_i32_1155
  let c32_i32_1156 : BitVec 32 := 32#32
  let v983 : BitVec 32 := Scalar.remsi v982 c32_i32_1156
  let c1_i32_1163 : BitVec 32 := 1#32
  let v984 : BitVec 32 := Scalar.muli v983 c1_i32_1163
  let v985 : BitVec 32 := Scalar.addi c0_i32_1164 v984
  v985.toNat
def k0_dev84 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1169 : BitVec 32 := 22#32
  let v994 : BitVec 32 := Scalar.addi v2 c22_i32_1169
  let c32_i32_1170 : BitVec 32 := 32#32
  let v995 : BitVec 32 := Scalar.remsi v994 c32_i32_1170
  let c1_i32_1177 : BitVec 32 := 1#32
  let v996 : BitVec 32 := Scalar.muli v995 c1_i32_1177
  let v997 : BitVec 32 := Scalar.addi c0_i32_1178 v996
  v997.toNat
def k0_dev85 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1183 : BitVec 32 := 23#32
  let v1006 : BitVec 32 := Scalar.addi v2 c23_i32_1183
  let c32_i32_1184 : BitVec 32 := 32#32
  let v1007 : BitVec 32 := Scalar.remsi v1006 c32_i32_1184
  let c1_i32_1191 : BitVec 32 := 1#32
  let v1008 : BitVec 32 := Scalar.muli v1007 c1_i32_1191
  let v1009 : BitVec 32 := Scalar.addi c0_i32_1192 v1008
  v1009.toNat
def k0_dev86 (d0 : Dev nD) : Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1301 : BitVec 32 := 24#32
  let v1094 : BitVec 32 := Scalar.addi v2 c24_i32_1301
  let c32_i32_1302 : BitVec 32 := 32#32
  let v1095 : BitVec 32 := Scalar.remsi v1094 c32_i32_1302
  let c1_i32_1309 : BitVec 32 := 1#32
  let v1096 : BitVec 32 := Scalar.muli v1095 c1_i32_1309
  let v1097 : BitVec 32 := Scalar.addi c0_i32_1310 v1096
  v1097.toNat
def k0_dev87 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1315 : BitVec 32 := 25#32
  let v1106 : BitVec 32 := Scalar.addi v2 c25_i32_1315
  let c32_i32_1316 : BitVec 32 := 32#32
  let v1107 : BitVec 32 := Scalar.remsi v1106 c32_i32_1316
  let c1_i32_1323 : BitVec 32 := 1#32
  let v1108 : BitVec 32 := Scalar.muli v1107 c1_i32_1323
  let v1109 : BitVec 32 := Scalar.addi c0_i32_1324 v1108
  v1109.toNat
def k0_dev88 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1329 : BitVec 32 := 26#32
  let v1118 : BitVec 32 := Scalar.addi v2 c26_i32_1329
  let c32_i32_1330 : BitVec 32 := 32#32
  let v1119 : BitVec 32 := Scalar.remsi v1118 c32_i32_1330
  let c1_i32_1337 : BitVec 32 := 1#32
  let v1120 : BitVec 32 := Scalar.muli v1119 c1_i32_1337
  let v1121 : BitVec 32 := Scalar.addi c0_i32_1338 v1120
  v1121.toNat
def k0_dev89 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1343 : BitVec 32 := 27#32
  let v1130 : BitVec 32 := Scalar.addi v2 c27_i32_1343
  let c32_i32_1344 : BitVec 32 := 32#32
  let v1131 : BitVec 32 := Scalar.remsi v1130 c32_i32_1344
  let c1_i32_1351 : BitVec 32 := 1#32
  let v1132 : BitVec 32 := Scalar.muli v1131 c1_i32_1351
  let v1133 : BitVec 32 := Scalar.addi c0_i32_1352 v1132
  v1133.toNat
def k0_dev90 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1357 : BitVec 32 := 28#32
  let v1142 : BitVec 32 := Scalar.addi v2 c28_i32_1357
  let c32_i32_1358 : BitVec 32 := 32#32
  let v1143 : BitVec 32 := Scalar.remsi v1142 c32_i32_1358
  let c1_i32_1365 : BitVec 32 := 1#32
  let v1144 : BitVec 32 := Scalar.muli v1143 c1_i32_1365
  let v1145 : BitVec 32 := Scalar.addi c0_i32_1366 v1144
  v1145.toNat
def k0_dev91 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1371 : BitVec 32 := 29#32
  let v1154 : BitVec 32 := Scalar.addi v2 c29_i32_1371
  let c32_i32_1372 : BitVec 32 := 32#32
  let v1155 : BitVec 32 := Scalar.remsi v1154 c32_i32_1372
  let c1_i32_1379 : BitVec 32 := 1#32
  let v1156 : BitVec 32 := Scalar.muli v1155 c1_i32_1379
  let v1157 : BitVec 32 := Scalar.addi c0_i32_1380 v1156
  v1157.toNat
def k0_dev92 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1385 : BitVec 32 := 30#32
  let v1166 : BitVec 32 := Scalar.addi v2 c30_i32_1385
  let c32_i32_1386 : BitVec 32 := 32#32
  let v1167 : BitVec 32 := Scalar.remsi v1166 c32_i32_1386
  let c1_i32_1393 : BitVec 32 := 1#32
  let v1168 : BitVec 32 := Scalar.muli v1167 c1_i32_1393
  let v1169 : BitVec 32 := Scalar.addi c0_i32_1394 v1168
  v1169.toNat
def k0_dev93 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1399 : BitVec 32 := 31#32
  let v1178 : BitVec 32 := Scalar.addi v2 c31_i32_1399
  let c32_i32_1400 : BitVec 32 := 32#32
  let v1179 : BitVec 32 := Scalar.remsi v1178 c32_i32_1400
  let c1_i32_1407 : BitVec 32 := 1#32
  let v1180 : BitVec 32 := Scalar.muli v1179 c1_i32_1407
  let v1181 : BitVec 32 := Scalar.addi c0_i32_1408 v1180
  v1181.toNat
def k0_dev94 (d0 : Dev nD) : Nat :=
  let c0_i32_2549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2540 : BitVec 32 := 1#32
  let v1884 : BitVec 32 := Scalar.addi v2 c1_i32_2540
  let c32_i32_2541 : BitVec 32 := 32#32
  let v1885 : BitVec 32 := Scalar.remsi v1884 c32_i32_2541
  let c1_i32_2548 : BitVec 32 := 1#32
  let v1886 : BitVec 32 := Scalar.muli v1885 c1_i32_2548
  let v1887 : BitVec 32 := Scalar.addi c0_i32_2549 v1886
  v1887.toNat
def k0_dev95 (d0 : Dev nD) : Nat :=
  let c0_i32_2563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2554 : BitVec 32 := 2#32
  let v1896 : BitVec 32 := Scalar.addi v2 c2_i32_2554
  let c32_i32_2555 : BitVec 32 := 32#32
  let v1897 : BitVec 32 := Scalar.remsi v1896 c32_i32_2555
  let c1_i32_2562 : BitVec 32 := 1#32
  let v1898 : BitVec 32 := Scalar.muli v1897 c1_i32_2562
  let v1899 : BitVec 32 := Scalar.addi c0_i32_2563 v1898
  v1899.toNat
def k0_dev96 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2568 : BitVec 32 := 3#32
  let v1908 : BitVec 32 := Scalar.addi v2 c3_i32_2568
  let c32_i32_2569 : BitVec 32 := 32#32
  let v1909 : BitVec 32 := Scalar.remsi v1908 c32_i32_2569
  let c1_i32_2576 : BitVec 32 := 1#32
  let v1910 : BitVec 32 := Scalar.muli v1909 c1_i32_2576
  let v1911 : BitVec 32 := Scalar.addi c0_i32_2577 v1910
  v1911.toNat
def k0_dev97 (d0 : Dev nD) : Nat :=
  let c0_i32_2591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2582 : BitVec 32 := 4#32
  let v1920 : BitVec 32 := Scalar.addi v2 c4_i32_2582
  let c32_i32_2583 : BitVec 32 := 32#32
  let v1921 : BitVec 32 := Scalar.remsi v1920 c32_i32_2583
  let c1_i32_2590 : BitVec 32 := 1#32
  let v1922 : BitVec 32 := Scalar.muli v1921 c1_i32_2590
  let v1923 : BitVec 32 := Scalar.addi c0_i32_2591 v1922
  v1923.toNat
def k0_dev98 (d0 : Dev nD) : Nat :=
  let c0_i32_2605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2596 : BitVec 32 := 5#32
  let v1932 : BitVec 32 := Scalar.addi v2 c5_i32_2596
  let c32_i32_2597 : BitVec 32 := 32#32
  let v1933 : BitVec 32 := Scalar.remsi v1932 c32_i32_2597
  let c1_i32_2604 : BitVec 32 := 1#32
  let v1934 : BitVec 32 := Scalar.muli v1933 c1_i32_2604
  let v1935 : BitVec 32 := Scalar.addi c0_i32_2605 v1934
  v1935.toNat
def k0_dev99 (d0 : Dev nD) : Nat :=
  let c0_i32_2619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2610 : BitVec 32 := 6#32
  let v1944 : BitVec 32 := Scalar.addi v2 c6_i32_2610
  let c32_i32_2611 : BitVec 32 := 32#32
  let v1945 : BitVec 32 := Scalar.remsi v1944 c32_i32_2611
  let c1_i32_2618 : BitVec 32 := 1#32
  let v1946 : BitVec 32 := Scalar.muli v1945 c1_i32_2618
  let v1947 : BitVec 32 := Scalar.addi c0_i32_2619 v1946
  v1947.toNat
def k0_dev100 (d0 : Dev nD) : Nat :=
  let c0_i32_2633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2624 : BitVec 32 := 7#32
  let v1956 : BitVec 32 := Scalar.addi v2 c7_i32_2624
  let c32_i32_2625 : BitVec 32 := 32#32
  let v1957 : BitVec 32 := Scalar.remsi v1956 c32_i32_2625
  let c1_i32_2632 : BitVec 32 := 1#32
  let v1958 : BitVec 32 := Scalar.muli v1957 c1_i32_2632
  let v1959 : BitVec 32 := Scalar.addi c0_i32_2633 v1958
  v1959.toNat
def k0_dev101 (d0 : Dev nD) : Nat :=
  let c0_i32_2647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2638 : BitVec 32 := 8#32
  let v1968 : BitVec 32 := Scalar.addi v2 c8_i32_2638
  let c32_i32_2639 : BitVec 32 := 32#32
  let v1969 : BitVec 32 := Scalar.remsi v1968 c32_i32_2639
  let c1_i32_2646 : BitVec 32 := 1#32
  let v1970 : BitVec 32 := Scalar.muli v1969 c1_i32_2646
  let v1971 : BitVec 32 := Scalar.addi c0_i32_2647 v1970
  v1971.toNat
def k0_dev102 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2652 : BitVec 32 := 9#32
  let v1980 : BitVec 32 := Scalar.addi v2 c9_i32_2652
  let c32_i32_2653 : BitVec 32 := 32#32
  let v1981 : BitVec 32 := Scalar.remsi v1980 c32_i32_2653
  let c1_i32_2660 : BitVec 32 := 1#32
  let v1982 : BitVec 32 := Scalar.muli v1981 c1_i32_2660
  let v1983 : BitVec 32 := Scalar.addi c0_i32_2661 v1982
  v1983.toNat
def k0_dev103 (d0 : Dev nD) : Nat :=
  let c0_i32_2675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2666 : BitVec 32 := 10#32
  let v1992 : BitVec 32 := Scalar.addi v2 c10_i32_2666
  let c32_i32_2667 : BitVec 32 := 32#32
  let v1993 : BitVec 32 := Scalar.remsi v1992 c32_i32_2667
  let c1_i32_2674 : BitVec 32 := 1#32
  let v1994 : BitVec 32 := Scalar.muli v1993 c1_i32_2674
  let v1995 : BitVec 32 := Scalar.addi c0_i32_2675 v1994
  v1995.toNat
def k0_dev104 (d0 : Dev nD) : Nat :=
  let c0_i32_2689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2680 : BitVec 32 := 11#32
  let v2004 : BitVec 32 := Scalar.addi v2 c11_i32_2680
  let c32_i32_2681 : BitVec 32 := 32#32
  let v2005 : BitVec 32 := Scalar.remsi v2004 c32_i32_2681
  let c1_i32_2688 : BitVec 32 := 1#32
  let v2006 : BitVec 32 := Scalar.muli v2005 c1_i32_2688
  let v2007 : BitVec 32 := Scalar.addi c0_i32_2689 v2006
  v2007.toNat
def k0_dev105 (d0 : Dev nD) : Nat :=
  let c0_i32_2703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2694 : BitVec 32 := 12#32
  let v2016 : BitVec 32 := Scalar.addi v2 c12_i32_2694
  let c32_i32_2695 : BitVec 32 := 32#32
  let v2017 : BitVec 32 := Scalar.remsi v2016 c32_i32_2695
  let c1_i32_2702 : BitVec 32 := 1#32
  let v2018 : BitVec 32 := Scalar.muli v2017 c1_i32_2702
  let v2019 : BitVec 32 := Scalar.addi c0_i32_2703 v2018
  v2019.toNat
def k0_dev106 (d0 : Dev nD) : Nat :=
  let c0_i32_2717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2708 : BitVec 32 := 13#32
  let v2028 : BitVec 32 := Scalar.addi v2 c13_i32_2708
  let c32_i32_2709 : BitVec 32 := 32#32
  let v2029 : BitVec 32 := Scalar.remsi v2028 c32_i32_2709
  let c1_i32_2716 : BitVec 32 := 1#32
  let v2030 : BitVec 32 := Scalar.muli v2029 c1_i32_2716
  let v2031 : BitVec 32 := Scalar.addi c0_i32_2717 v2030
  v2031.toNat
def k0_dev107 (d0 : Dev nD) : Nat :=
  let c0_i32_2731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2722 : BitVec 32 := 14#32
  let v2040 : BitVec 32 := Scalar.addi v2 c14_i32_2722
  let c32_i32_2723 : BitVec 32 := 32#32
  let v2041 : BitVec 32 := Scalar.remsi v2040 c32_i32_2723
  let c1_i32_2730 : BitVec 32 := 1#32
  let v2042 : BitVec 32 := Scalar.muli v2041 c1_i32_2730
  let v2043 : BitVec 32 := Scalar.addi c0_i32_2731 v2042
  v2043.toNat
def k0_dev108 (d0 : Dev nD) : Nat :=
  let c0_i32_2745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2736 : BitVec 32 := 15#32
  let v2052 : BitVec 32 := Scalar.addi v2 c15_i32_2736
  let c32_i32_2737 : BitVec 32 := 32#32
  let v2053 : BitVec 32 := Scalar.remsi v2052 c32_i32_2737
  let c1_i32_2744 : BitVec 32 := 1#32
  let v2054 : BitVec 32 := Scalar.muli v2053 c1_i32_2744
  let v2055 : BitVec 32 := Scalar.addi c0_i32_2745 v2054
  v2055.toNat
def k0_dev109 (d0 : Dev nD) : Nat :=
  let c0_i32_2759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2750 : BitVec 32 := 16#32
  let v2064 : BitVec 32 := Scalar.addi v2 c16_i32_2750
  let c32_i32_2751 : BitVec 32 := 32#32
  let v2065 : BitVec 32 := Scalar.remsi v2064 c32_i32_2751
  let c1_i32_2758 : BitVec 32 := 1#32
  let v2066 : BitVec 32 := Scalar.muli v2065 c1_i32_2758
  let v2067 : BitVec 32 := Scalar.addi c0_i32_2759 v2066
  v2067.toNat
def k0_dev110 (d0 : Dev nD) : Nat :=
  let c0_i32_2773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2764 : BitVec 32 := 17#32
  let v2076 : BitVec 32 := Scalar.addi v2 c17_i32_2764
  let c32_i32_2765 : BitVec 32 := 32#32
  let v2077 : BitVec 32 := Scalar.remsi v2076 c32_i32_2765
  let c1_i32_2772 : BitVec 32 := 1#32
  let v2078 : BitVec 32 := Scalar.muli v2077 c1_i32_2772
  let v2079 : BitVec 32 := Scalar.addi c0_i32_2773 v2078
  v2079.toNat
def k0_dev111 (d0 : Dev nD) : Nat :=
  let c0_i32_2787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2778 : BitVec 32 := 18#32
  let v2088 : BitVec 32 := Scalar.addi v2 c18_i32_2778
  let c32_i32_2779 : BitVec 32 := 32#32
  let v2089 : BitVec 32 := Scalar.remsi v2088 c32_i32_2779
  let c1_i32_2786 : BitVec 32 := 1#32
  let v2090 : BitVec 32 := Scalar.muli v2089 c1_i32_2786
  let v2091 : BitVec 32 := Scalar.addi c0_i32_2787 v2090
  v2091.toNat
def k0_dev112 (d0 : Dev nD) : Nat :=
  let c0_i32_2801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2792 : BitVec 32 := 19#32
  let v2100 : BitVec 32 := Scalar.addi v2 c19_i32_2792
  let c32_i32_2793 : BitVec 32 := 32#32
  let v2101 : BitVec 32 := Scalar.remsi v2100 c32_i32_2793
  let c1_i32_2800 : BitVec 32 := 1#32
  let v2102 : BitVec 32 := Scalar.muli v2101 c1_i32_2800
  let v2103 : BitVec 32 := Scalar.addi c0_i32_2801 v2102
  v2103.toNat
def k0_dev113 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2806 : BitVec 32 := 20#32
  let v2112 : BitVec 32 := Scalar.addi v2 c20_i32_2806
  let c32_i32_2807 : BitVec 32 := 32#32
  let v2113 : BitVec 32 := Scalar.remsi v2112 c32_i32_2807
  let c1_i32_2814 : BitVec 32 := 1#32
  let v2114 : BitVec 32 := Scalar.muli v2113 c1_i32_2814
  let v2115 : BitVec 32 := Scalar.addi c0_i32_2815 v2114
  v2115.toNat
def k0_dev114 (d0 : Dev nD) : Nat :=
  let c0_i32_2829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2820 : BitVec 32 := 21#32
  let v2124 : BitVec 32 := Scalar.addi v2 c21_i32_2820
  let c32_i32_2821 : BitVec 32 := 32#32
  let v2125 : BitVec 32 := Scalar.remsi v2124 c32_i32_2821
  let c1_i32_2828 : BitVec 32 := 1#32
  let v2126 : BitVec 32 := Scalar.muli v2125 c1_i32_2828
  let v2127 : BitVec 32 := Scalar.addi c0_i32_2829 v2126
  v2127.toNat
def k0_dev115 (d0 : Dev nD) : Nat :=
  let c0_i32_2843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2834 : BitVec 32 := 22#32
  let v2136 : BitVec 32 := Scalar.addi v2 c22_i32_2834
  let c32_i32_2835 : BitVec 32 := 32#32
  let v2137 : BitVec 32 := Scalar.remsi v2136 c32_i32_2835
  let c1_i32_2842 : BitVec 32 := 1#32
  let v2138 : BitVec 32 := Scalar.muli v2137 c1_i32_2842
  let v2139 : BitVec 32 := Scalar.addi c0_i32_2843 v2138
  v2139.toNat
def k0_dev116 (d0 : Dev nD) : Nat :=
  let c0_i32_2857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2848 : BitVec 32 := 23#32
  let v2148 : BitVec 32 := Scalar.addi v2 c23_i32_2848
  let c32_i32_2849 : BitVec 32 := 32#32
  let v2149 : BitVec 32 := Scalar.remsi v2148 c32_i32_2849
  let c1_i32_2856 : BitVec 32 := 1#32
  let v2150 : BitVec 32 := Scalar.muli v2149 c1_i32_2856
  let v2151 : BitVec 32 := Scalar.addi c0_i32_2857 v2150
  v2151.toNat
def k0_dev117 (d0 : Dev nD) : Nat :=
  let c0_i32_2871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2862 : BitVec 32 := 24#32
  let v2160 : BitVec 32 := Scalar.addi v2 c24_i32_2862
  let c32_i32_2863 : BitVec 32 := 32#32
  let v2161 : BitVec 32 := Scalar.remsi v2160 c32_i32_2863
  let c1_i32_2870 : BitVec 32 := 1#32
  let v2162 : BitVec 32 := Scalar.muli v2161 c1_i32_2870
  let v2163 : BitVec 32 := Scalar.addi c0_i32_2871 v2162
  v2163.toNat
def k0_dev118 (d0 : Dev nD) : Nat :=
  let c0_i32_2885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2876 : BitVec 32 := 25#32
  let v2172 : BitVec 32 := Scalar.addi v2 c25_i32_2876
  let c32_i32_2877 : BitVec 32 := 32#32
  let v2173 : BitVec 32 := Scalar.remsi v2172 c32_i32_2877
  let c1_i32_2884 : BitVec 32 := 1#32
  let v2174 : BitVec 32 := Scalar.muli v2173 c1_i32_2884
  let v2175 : BitVec 32 := Scalar.addi c0_i32_2885 v2174
  v2175.toNat
def k0_dev119 (d0 : Dev nD) : Nat :=
  let c0_i32_2899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2890 : BitVec 32 := 26#32
  let v2184 : BitVec 32 := Scalar.addi v2 c26_i32_2890
  let c32_i32_2891 : BitVec 32 := 32#32
  let v2185 : BitVec 32 := Scalar.remsi v2184 c32_i32_2891
  let c1_i32_2898 : BitVec 32 := 1#32
  let v2186 : BitVec 32 := Scalar.muli v2185 c1_i32_2898
  let v2187 : BitVec 32 := Scalar.addi c0_i32_2899 v2186
  v2187.toNat
def k0_dev120 (d0 : Dev nD) : Nat :=
  let c0_i32_2913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2904 : BitVec 32 := 27#32
  let v2196 : BitVec 32 := Scalar.addi v2 c27_i32_2904
  let c32_i32_2905 : BitVec 32 := 32#32
  let v2197 : BitVec 32 := Scalar.remsi v2196 c32_i32_2905
  let c1_i32_2912 : BitVec 32 := 1#32
  let v2198 : BitVec 32 := Scalar.muli v2197 c1_i32_2912
  let v2199 : BitVec 32 := Scalar.addi c0_i32_2913 v2198
  v2199.toNat
def k0_dev121 (d0 : Dev nD) : Nat :=
  let c0_i32_2927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2918 : BitVec 32 := 28#32
  let v2208 : BitVec 32 := Scalar.addi v2 c28_i32_2918
  let c32_i32_2919 : BitVec 32 := 32#32
  let v2209 : BitVec 32 := Scalar.remsi v2208 c32_i32_2919
  let c1_i32_2926 : BitVec 32 := 1#32
  let v2210 : BitVec 32 := Scalar.muli v2209 c1_i32_2926
  let v2211 : BitVec 32 := Scalar.addi c0_i32_2927 v2210
  v2211.toNat
def k0_dev122 (d0 : Dev nD) : Nat :=
  let c0_i32_2941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2932 : BitVec 32 := 29#32
  let v2220 : BitVec 32 := Scalar.addi v2 c29_i32_2932
  let c32_i32_2933 : BitVec 32 := 32#32
  let v2221 : BitVec 32 := Scalar.remsi v2220 c32_i32_2933
  let c1_i32_2940 : BitVec 32 := 1#32
  let v2222 : BitVec 32 := Scalar.muli v2221 c1_i32_2940
  let v2223 : BitVec 32 := Scalar.addi c0_i32_2941 v2222
  v2223.toNat
def k0_dev123 (d0 : Dev nD) : Nat :=
  let c0_i32_2955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2946 : BitVec 32 := 30#32
  let v2232 : BitVec 32 := Scalar.addi v2 c30_i32_2946
  let c32_i32_2947 : BitVec 32 := 32#32
  let v2233 : BitVec 32 := Scalar.remsi v2232 c32_i32_2947
  let c1_i32_2954 : BitVec 32 := 1#32
  let v2234 : BitVec 32 := Scalar.muli v2233 c1_i32_2954
  let v2235 : BitVec 32 := Scalar.addi c0_i32_2955 v2234
  v2235.toNat
def k0_dev124 (d0 : Dev nD) : Nat :=
  let c0_i32_2969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2960 : BitVec 32 := 31#32
  let v2244 : BitVec 32 := Scalar.addi v2 c31_i32_2960
  let c32_i32_2961 : BitVec 32 := 32#32
  let v2245 : BitVec 32 := Scalar.remsi v2244 c32_i32_2961
  let c1_i32_2968 : BitVec 32 := 1#32
  let v2246 : BitVec 32 := Scalar.muli v2245 c1_i32_2968
  let v2247 : BitVec 32 := Scalar.addi c0_i32_2969 v2246
  v2247.toNat
def k0_dev125 (d0 : Dev nD) : Nat :=
  let c0_i32_3085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3076 : BitVec 32 := 1#32
  let v2336 : BitVec 32 := Scalar.addi v2 c1_i32_3076
  let c32_i32_3077 : BitVec 32 := 32#32
  let v2337 : BitVec 32 := Scalar.remsi v2336 c32_i32_3077
  let c1_i32_3084 : BitVec 32 := 1#32
  let v2338 : BitVec 32 := Scalar.muli v2337 c1_i32_3084
  let v2339 : BitVec 32 := Scalar.addi c0_i32_3085 v2338
  v2339.toNat
def k0_dev126 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3090 : BitVec 32 := 2#32
  let v2348 : BitVec 32 := Scalar.addi v2 c2_i32_3090
  let c32_i32_3091 : BitVec 32 := 32#32
  let v2349 : BitVec 32 := Scalar.remsi v2348 c32_i32_3091
  let c1_i32_3098 : BitVec 32 := 1#32
  let v2350 : BitVec 32 := Scalar.muli v2349 c1_i32_3098
  let v2351 : BitVec 32 := Scalar.addi c0_i32_3099 v2350
  v2351.toNat
def k0_dev127 (d0 : Dev nD) : Nat :=
  let c0_i32_3113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3104 : BitVec 32 := 3#32
  let v2360 : BitVec 32 := Scalar.addi v2 c3_i32_3104
  let c32_i32_3105 : BitVec 32 := 32#32
  let v2361 : BitVec 32 := Scalar.remsi v2360 c32_i32_3105
  let c1_i32_3112 : BitVec 32 := 1#32
  let v2362 : BitVec 32 := Scalar.muli v2361 c1_i32_3112
  let v2363 : BitVec 32 := Scalar.addi c0_i32_3113 v2362
  v2363.toNat
def k0_dev128 (d0 : Dev nD) : Nat :=
  let c0_i32_3127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3118 : BitVec 32 := 4#32
  let v2372 : BitVec 32 := Scalar.addi v2 c4_i32_3118
  let c32_i32_3119 : BitVec 32 := 32#32
  let v2373 : BitVec 32 := Scalar.remsi v2372 c32_i32_3119
  let c1_i32_3126 : BitVec 32 := 1#32
  let v2374 : BitVec 32 := Scalar.muli v2373 c1_i32_3126
  let v2375 : BitVec 32 := Scalar.addi c0_i32_3127 v2374
  v2375.toNat
def k0_dev129 (d0 : Dev nD) : Nat :=
  let c0_i32_3141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3132 : BitVec 32 := 5#32
  let v2384 : BitVec 32 := Scalar.addi v2 c5_i32_3132
  let c32_i32_3133 : BitVec 32 := 32#32
  let v2385 : BitVec 32 := Scalar.remsi v2384 c32_i32_3133
  let c1_i32_3140 : BitVec 32 := 1#32
  let v2386 : BitVec 32 := Scalar.muli v2385 c1_i32_3140
  let v2387 : BitVec 32 := Scalar.addi c0_i32_3141 v2386
  v2387.toNat
def k0_dev130 (d0 : Dev nD) : Nat :=
  let c0_i32_3155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3146 : BitVec 32 := 6#32
  let v2396 : BitVec 32 := Scalar.addi v2 c6_i32_3146
  let c32_i32_3147 : BitVec 32 := 32#32
  let v2397 : BitVec 32 := Scalar.remsi v2396 c32_i32_3147
  let c1_i32_3154 : BitVec 32 := 1#32
  let v2398 : BitVec 32 := Scalar.muli v2397 c1_i32_3154
  let v2399 : BitVec 32 := Scalar.addi c0_i32_3155 v2398
  v2399.toNat
def k0_dev131 (d0 : Dev nD) : Nat :=
  let c0_i32_3169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3160 : BitVec 32 := 7#32
  let v2408 : BitVec 32 := Scalar.addi v2 c7_i32_3160
  let c32_i32_3161 : BitVec 32 := 32#32
  let v2409 : BitVec 32 := Scalar.remsi v2408 c32_i32_3161
  let c1_i32_3168 : BitVec 32 := 1#32
  let v2410 : BitVec 32 := Scalar.muli v2409 c1_i32_3168
  let v2411 : BitVec 32 := Scalar.addi c0_i32_3169 v2410
  v2411.toNat
def k0_dev132 (d0 : Dev nD) : Nat :=
  let c0_i32_3288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3279 : BitVec 32 := 8#32
  let v2496 : BitVec 32 := Scalar.addi v2 c8_i32_3279
  let c32_i32_3280 : BitVec 32 := 32#32
  let v2497 : BitVec 32 := Scalar.remsi v2496 c32_i32_3280
  let c1_i32_3287 : BitVec 32 := 1#32
  let v2498 : BitVec 32 := Scalar.muli v2497 c1_i32_3287
  let v2499 : BitVec 32 := Scalar.addi c0_i32_3288 v2498
  v2499.toNat
def k0_dev133 (d0 : Dev nD) : Nat :=
  let c0_i32_3302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3293 : BitVec 32 := 9#32
  let v2508 : BitVec 32 := Scalar.addi v2 c9_i32_3293
  let c32_i32_3294 : BitVec 32 := 32#32
  let v2509 : BitVec 32 := Scalar.remsi v2508 c32_i32_3294
  let c1_i32_3301 : BitVec 32 := 1#32
  let v2510 : BitVec 32 := Scalar.muli v2509 c1_i32_3301
  let v2511 : BitVec 32 := Scalar.addi c0_i32_3302 v2510
  v2511.toNat
def k0_dev134 (d0 : Dev nD) : Nat :=
  let c0_i32_3316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3307 : BitVec 32 := 10#32
  let v2520 : BitVec 32 := Scalar.addi v2 c10_i32_3307
  let c32_i32_3308 : BitVec 32 := 32#32
  let v2521 : BitVec 32 := Scalar.remsi v2520 c32_i32_3308
  let c1_i32_3315 : BitVec 32 := 1#32
  let v2522 : BitVec 32 := Scalar.muli v2521 c1_i32_3315
  let v2523 : BitVec 32 := Scalar.addi c0_i32_3316 v2522
  v2523.toNat
def k0_dev135 (d0 : Dev nD) : Nat :=
  let c0_i32_3330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3321 : BitVec 32 := 11#32
  let v2532 : BitVec 32 := Scalar.addi v2 c11_i32_3321
  let c32_i32_3322 : BitVec 32 := 32#32
  let v2533 : BitVec 32 := Scalar.remsi v2532 c32_i32_3322
  let c1_i32_3329 : BitVec 32 := 1#32
  let v2534 : BitVec 32 := Scalar.muli v2533 c1_i32_3329
  let v2535 : BitVec 32 := Scalar.addi c0_i32_3330 v2534
  v2535.toNat
def k0_dev136 (d0 : Dev nD) : Nat :=
  let c0_i32_3344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3335 : BitVec 32 := 12#32
  let v2544 : BitVec 32 := Scalar.addi v2 c12_i32_3335
  let c32_i32_3336 : BitVec 32 := 32#32
  let v2545 : BitVec 32 := Scalar.remsi v2544 c32_i32_3336
  let c1_i32_3343 : BitVec 32 := 1#32
  let v2546 : BitVec 32 := Scalar.muli v2545 c1_i32_3343
  let v2547 : BitVec 32 := Scalar.addi c0_i32_3344 v2546
  v2547.toNat
def k0_dev137 (d0 : Dev nD) : Nat :=
  let c0_i32_3358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3349 : BitVec 32 := 13#32
  let v2556 : BitVec 32 := Scalar.addi v2 c13_i32_3349
  let c32_i32_3350 : BitVec 32 := 32#32
  let v2557 : BitVec 32 := Scalar.remsi v2556 c32_i32_3350
  let c1_i32_3357 : BitVec 32 := 1#32
  let v2558 : BitVec 32 := Scalar.muli v2557 c1_i32_3357
  let v2559 : BitVec 32 := Scalar.addi c0_i32_3358 v2558
  v2559.toNat
def k0_dev138 (d0 : Dev nD) : Nat :=
  let c0_i32_3372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3363 : BitVec 32 := 14#32
  let v2568 : BitVec 32 := Scalar.addi v2 c14_i32_3363
  let c32_i32_3364 : BitVec 32 := 32#32
  let v2569 : BitVec 32 := Scalar.remsi v2568 c32_i32_3364
  let c1_i32_3371 : BitVec 32 := 1#32
  let v2570 : BitVec 32 := Scalar.muli v2569 c1_i32_3371
  let v2571 : BitVec 32 := Scalar.addi c0_i32_3372 v2570
  v2571.toNat
def k0_dev139 (d0 : Dev nD) : Nat :=
  let c0_i32_3386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3377 : BitVec 32 := 15#32
  let v2580 : BitVec 32 := Scalar.addi v2 c15_i32_3377
  let c32_i32_3378 : BitVec 32 := 32#32
  let v2581 : BitVec 32 := Scalar.remsi v2580 c32_i32_3378
  let c1_i32_3385 : BitVec 32 := 1#32
  let v2582 : BitVec 32 := Scalar.muli v2581 c1_i32_3385
  let v2583 : BitVec 32 := Scalar.addi c0_i32_3386 v2582
  v2583.toNat
def k0_dev140 (d0 : Dev nD) : Nat :=
  let c0_i32_3505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3496 : BitVec 32 := 16#32
  let v2668 : BitVec 32 := Scalar.addi v2 c16_i32_3496
  let c32_i32_3497 : BitVec 32 := 32#32
  let v2669 : BitVec 32 := Scalar.remsi v2668 c32_i32_3497
  let c1_i32_3504 : BitVec 32 := 1#32
  let v2670 : BitVec 32 := Scalar.muli v2669 c1_i32_3504
  let v2671 : BitVec 32 := Scalar.addi c0_i32_3505 v2670
  v2671.toNat
def k0_dev141 (d0 : Dev nD) : Nat :=
  let c0_i32_3519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3510 : BitVec 32 := 17#32
  let v2680 : BitVec 32 := Scalar.addi v2 c17_i32_3510
  let c32_i32_3511 : BitVec 32 := 32#32
  let v2681 : BitVec 32 := Scalar.remsi v2680 c32_i32_3511
  let c1_i32_3518 : BitVec 32 := 1#32
  let v2682 : BitVec 32 := Scalar.muli v2681 c1_i32_3518
  let v2683 : BitVec 32 := Scalar.addi c0_i32_3519 v2682
  v2683.toNat
def k0_dev142 (d0 : Dev nD) : Nat :=
  let c0_i32_3533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3524 : BitVec 32 := 18#32
  let v2692 : BitVec 32 := Scalar.addi v2 c18_i32_3524
  let c32_i32_3525 : BitVec 32 := 32#32
  let v2693 : BitVec 32 := Scalar.remsi v2692 c32_i32_3525
  let c1_i32_3532 : BitVec 32 := 1#32
  let v2694 : BitVec 32 := Scalar.muli v2693 c1_i32_3532
  let v2695 : BitVec 32 := Scalar.addi c0_i32_3533 v2694
  v2695.toNat
def k0_dev143 (d0 : Dev nD) : Nat :=
  let c0_i32_3547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3538 : BitVec 32 := 19#32
  let v2704 : BitVec 32 := Scalar.addi v2 c19_i32_3538
  let c32_i32_3539 : BitVec 32 := 32#32
  let v2705 : BitVec 32 := Scalar.remsi v2704 c32_i32_3539
  let c1_i32_3546 : BitVec 32 := 1#32
  let v2706 : BitVec 32 := Scalar.muli v2705 c1_i32_3546
  let v2707 : BitVec 32 := Scalar.addi c0_i32_3547 v2706
  v2707.toNat
def k0_dev144 (d0 : Dev nD) : Nat :=
  let c0_i32_3561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3552 : BitVec 32 := 20#32
  let v2716 : BitVec 32 := Scalar.addi v2 c20_i32_3552
  let c32_i32_3553 : BitVec 32 := 32#32
  let v2717 : BitVec 32 := Scalar.remsi v2716 c32_i32_3553
  let c1_i32_3560 : BitVec 32 := 1#32
  let v2718 : BitVec 32 := Scalar.muli v2717 c1_i32_3560
  let v2719 : BitVec 32 := Scalar.addi c0_i32_3561 v2718
  v2719.toNat
def k0_dev145 (d0 : Dev nD) : Nat :=
  let c0_i32_3575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3566 : BitVec 32 := 21#32
  let v2728 : BitVec 32 := Scalar.addi v2 c21_i32_3566
  let c32_i32_3567 : BitVec 32 := 32#32
  let v2729 : BitVec 32 := Scalar.remsi v2728 c32_i32_3567
  let c1_i32_3574 : BitVec 32 := 1#32
  let v2730 : BitVec 32 := Scalar.muli v2729 c1_i32_3574
  let v2731 : BitVec 32 := Scalar.addi c0_i32_3575 v2730
  v2731.toNat
def k0_dev146 (d0 : Dev nD) : Nat :=
  let c0_i32_3589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3580 : BitVec 32 := 22#32
  let v2740 : BitVec 32 := Scalar.addi v2 c22_i32_3580
  let c32_i32_3581 : BitVec 32 := 32#32
  let v2741 : BitVec 32 := Scalar.remsi v2740 c32_i32_3581
  let c1_i32_3588 : BitVec 32 := 1#32
  let v2742 : BitVec 32 := Scalar.muli v2741 c1_i32_3588
  let v2743 : BitVec 32 := Scalar.addi c0_i32_3589 v2742
  v2743.toNat
def k0_dev147 (d0 : Dev nD) : Nat :=
  let c0_i32_3603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3594 : BitVec 32 := 23#32
  let v2752 : BitVec 32 := Scalar.addi v2 c23_i32_3594
  let c32_i32_3595 : BitVec 32 := 32#32
  let v2753 : BitVec 32 := Scalar.remsi v2752 c32_i32_3595
  let c1_i32_3602 : BitVec 32 := 1#32
  let v2754 : BitVec 32 := Scalar.muli v2753 c1_i32_3602
  let v2755 : BitVec 32 := Scalar.addi c0_i32_3603 v2754
  v2755.toNat
def k0_dev148 (d0 : Dev nD) : Nat :=
  let c0_i32_3722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3713 : BitVec 32 := 24#32
  let v2840 : BitVec 32 := Scalar.addi v2 c24_i32_3713
  let c32_i32_3714 : BitVec 32 := 32#32
  let v2841 : BitVec 32 := Scalar.remsi v2840 c32_i32_3714
  let c1_i32_3721 : BitVec 32 := 1#32
  let v2842 : BitVec 32 := Scalar.muli v2841 c1_i32_3721
  let v2843 : BitVec 32 := Scalar.addi c0_i32_3722 v2842
  v2843.toNat
def k0_dev149 (d0 : Dev nD) : Nat :=
  let c0_i32_3736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3727 : BitVec 32 := 25#32
  let v2852 : BitVec 32 := Scalar.addi v2 c25_i32_3727
  let c32_i32_3728 : BitVec 32 := 32#32
  let v2853 : BitVec 32 := Scalar.remsi v2852 c32_i32_3728
  let c1_i32_3735 : BitVec 32 := 1#32
  let v2854 : BitVec 32 := Scalar.muli v2853 c1_i32_3735
  let v2855 : BitVec 32 := Scalar.addi c0_i32_3736 v2854
  v2855.toNat
def k0_dev150 (d0 : Dev nD) : Nat :=
  let c0_i32_3750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3741 : BitVec 32 := 26#32
  let v2864 : BitVec 32 := Scalar.addi v2 c26_i32_3741
  let c32_i32_3742 : BitVec 32 := 32#32
  let v2865 : BitVec 32 := Scalar.remsi v2864 c32_i32_3742
  let c1_i32_3749 : BitVec 32 := 1#32
  let v2866 : BitVec 32 := Scalar.muli v2865 c1_i32_3749
  let v2867 : BitVec 32 := Scalar.addi c0_i32_3750 v2866
  v2867.toNat
def k0_dev151 (d0 : Dev nD) : Nat :=
  let c0_i32_3764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3755 : BitVec 32 := 27#32
  let v2876 : BitVec 32 := Scalar.addi v2 c27_i32_3755
  let c32_i32_3756 : BitVec 32 := 32#32
  let v2877 : BitVec 32 := Scalar.remsi v2876 c32_i32_3756
  let c1_i32_3763 : BitVec 32 := 1#32
  let v2878 : BitVec 32 := Scalar.muli v2877 c1_i32_3763
  let v2879 : BitVec 32 := Scalar.addi c0_i32_3764 v2878
  v2879.toNat
def k0_dev152 (d0 : Dev nD) : Nat :=
  let c0_i32_3778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3769 : BitVec 32 := 28#32
  let v2888 : BitVec 32 := Scalar.addi v2 c28_i32_3769
  let c32_i32_3770 : BitVec 32 := 32#32
  let v2889 : BitVec 32 := Scalar.remsi v2888 c32_i32_3770
  let c1_i32_3777 : BitVec 32 := 1#32
  let v2890 : BitVec 32 := Scalar.muli v2889 c1_i32_3777
  let v2891 : BitVec 32 := Scalar.addi c0_i32_3778 v2890
  v2891.toNat
def k0_dev153 (d0 : Dev nD) : Nat :=
  let c0_i32_3792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3783 : BitVec 32 := 29#32
  let v2900 : BitVec 32 := Scalar.addi v2 c29_i32_3783
  let c32_i32_3784 : BitVec 32 := 32#32
  let v2901 : BitVec 32 := Scalar.remsi v2900 c32_i32_3784
  let c1_i32_3791 : BitVec 32 := 1#32
  let v2902 : BitVec 32 := Scalar.muli v2901 c1_i32_3791
  let v2903 : BitVec 32 := Scalar.addi c0_i32_3792 v2902
  v2903.toNat
def k0_dev154 (d0 : Dev nD) : Nat :=
  let c0_i32_3806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3797 : BitVec 32 := 30#32
  let v2912 : BitVec 32 := Scalar.addi v2 c30_i32_3797
  let c32_i32_3798 : BitVec 32 := 32#32
  let v2913 : BitVec 32 := Scalar.remsi v2912 c32_i32_3798
  let c1_i32_3805 : BitVec 32 := 1#32
  let v2914 : BitVec 32 := Scalar.muli v2913 c1_i32_3805
  let v2915 : BitVec 32 := Scalar.addi c0_i32_3806 v2914
  v2915.toNat
def k0_dev155 (d0 : Dev nD) : Nat :=
  let c0_i32_3820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3811 : BitVec 32 := 31#32
  let v2924 : BitVec 32 := Scalar.addi v2 c31_i32_3811
  let c32_i32_3812 : BitVec 32 := 32#32
  let v2925 : BitVec 32 := Scalar.remsi v2924 c32_i32_3812
  let c1_i32_3819 : BitVec 32 := 1#32
  let v2926 : BitVec 32 := Scalar.muli v2925 c1_i32_3819
  let v2927 : BitVec 32 := Scalar.addi c0_i32_3820 v2926
  v2927.toNat
def k0_dev156 (d0 : Dev nD) : Nat :=
  let c0_i32_4961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4952 : BitVec 32 := 1#32
  let v3630 : BitVec 32 := Scalar.addi v2 c1_i32_4952
  let c32_i32_4953 : BitVec 32 := 32#32
  let v3631 : BitVec 32 := Scalar.remsi v3630 c32_i32_4953
  let c1_i32_4960 : BitVec 32 := 1#32
  let v3632 : BitVec 32 := Scalar.muli v3631 c1_i32_4960
  let v3633 : BitVec 32 := Scalar.addi c0_i32_4961 v3632
  v3633.toNat
def k0_dev157 (d0 : Dev nD) : Nat :=
  let c0_i32_4975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4966 : BitVec 32 := 2#32
  let v3642 : BitVec 32 := Scalar.addi v2 c2_i32_4966
  let c32_i32_4967 : BitVec 32 := 32#32
  let v3643 : BitVec 32 := Scalar.remsi v3642 c32_i32_4967
  let c1_i32_4974 : BitVec 32 := 1#32
  let v3644 : BitVec 32 := Scalar.muli v3643 c1_i32_4974
  let v3645 : BitVec 32 := Scalar.addi c0_i32_4975 v3644
  v3645.toNat
def k0_dev158 (d0 : Dev nD) : Nat :=
  let c0_i32_4989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4980 : BitVec 32 := 3#32
  let v3654 : BitVec 32 := Scalar.addi v2 c3_i32_4980
  let c32_i32_4981 : BitVec 32 := 32#32
  let v3655 : BitVec 32 := Scalar.remsi v3654 c32_i32_4981
  let c1_i32_4988 : BitVec 32 := 1#32
  let v3656 : BitVec 32 := Scalar.muli v3655 c1_i32_4988
  let v3657 : BitVec 32 := Scalar.addi c0_i32_4989 v3656
  v3657.toNat
def k0_dev159 (d0 : Dev nD) : Nat :=
  let c0_i32_5003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4994 : BitVec 32 := 4#32
  let v3666 : BitVec 32 := Scalar.addi v2 c4_i32_4994
  let c32_i32_4995 : BitVec 32 := 32#32
  let v3667 : BitVec 32 := Scalar.remsi v3666 c32_i32_4995
  let c1_i32_5002 : BitVec 32 := 1#32
  let v3668 : BitVec 32 := Scalar.muli v3667 c1_i32_5002
  let v3669 : BitVec 32 := Scalar.addi c0_i32_5003 v3668
  v3669.toNat
def k0_dev160 (d0 : Dev nD) : Nat :=
  let c0_i32_5017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5008 : BitVec 32 := 5#32
  let v3678 : BitVec 32 := Scalar.addi v2 c5_i32_5008
  let c32_i32_5009 : BitVec 32 := 32#32
  let v3679 : BitVec 32 := Scalar.remsi v3678 c32_i32_5009
  let c1_i32_5016 : BitVec 32 := 1#32
  let v3680 : BitVec 32 := Scalar.muli v3679 c1_i32_5016
  let v3681 : BitVec 32 := Scalar.addi c0_i32_5017 v3680
  v3681.toNat
def k0_dev161 (d0 : Dev nD) : Nat :=
  let c0_i32_5031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5022 : BitVec 32 := 6#32
  let v3690 : BitVec 32 := Scalar.addi v2 c6_i32_5022
  let c32_i32_5023 : BitVec 32 := 32#32
  let v3691 : BitVec 32 := Scalar.remsi v3690 c32_i32_5023
  let c1_i32_5030 : BitVec 32 := 1#32
  let v3692 : BitVec 32 := Scalar.muli v3691 c1_i32_5030
  let v3693 : BitVec 32 := Scalar.addi c0_i32_5031 v3692
  v3693.toNat
def k0_dev162 (d0 : Dev nD) : Nat :=
  let c0_i32_5045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5036 : BitVec 32 := 7#32
  let v3702 : BitVec 32 := Scalar.addi v2 c7_i32_5036
  let c32_i32_5037 : BitVec 32 := 32#32
  let v3703 : BitVec 32 := Scalar.remsi v3702 c32_i32_5037
  let c1_i32_5044 : BitVec 32 := 1#32
  let v3704 : BitVec 32 := Scalar.muli v3703 c1_i32_5044
  let v3705 : BitVec 32 := Scalar.addi c0_i32_5045 v3704
  v3705.toNat
def k0_dev163 (d0 : Dev nD) : Nat :=
  let c0_i32_5059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5050 : BitVec 32 := 8#32
  let v3714 : BitVec 32 := Scalar.addi v2 c8_i32_5050
  let c32_i32_5051 : BitVec 32 := 32#32
  let v3715 : BitVec 32 := Scalar.remsi v3714 c32_i32_5051
  let c1_i32_5058 : BitVec 32 := 1#32
  let v3716 : BitVec 32 := Scalar.muli v3715 c1_i32_5058
  let v3717 : BitVec 32 := Scalar.addi c0_i32_5059 v3716
  v3717.toNat
def k0_dev164 (d0 : Dev nD) : Nat :=
  let c0_i32_5073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5064 : BitVec 32 := 9#32
  let v3726 : BitVec 32 := Scalar.addi v2 c9_i32_5064
  let c32_i32_5065 : BitVec 32 := 32#32
  let v3727 : BitVec 32 := Scalar.remsi v3726 c32_i32_5065
  let c1_i32_5072 : BitVec 32 := 1#32
  let v3728 : BitVec 32 := Scalar.muli v3727 c1_i32_5072
  let v3729 : BitVec 32 := Scalar.addi c0_i32_5073 v3728
  v3729.toNat
def k0_dev165 (d0 : Dev nD) : Nat :=
  let c0_i32_5087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5078 : BitVec 32 := 10#32
  let v3738 : BitVec 32 := Scalar.addi v2 c10_i32_5078
  let c32_i32_5079 : BitVec 32 := 32#32
  let v3739 : BitVec 32 := Scalar.remsi v3738 c32_i32_5079
  let c1_i32_5086 : BitVec 32 := 1#32
  let v3740 : BitVec 32 := Scalar.muli v3739 c1_i32_5086
  let v3741 : BitVec 32 := Scalar.addi c0_i32_5087 v3740
  v3741.toNat
def k0_dev166 (d0 : Dev nD) : Nat :=
  let c0_i32_5101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5092 : BitVec 32 := 11#32
  let v3750 : BitVec 32 := Scalar.addi v2 c11_i32_5092
  let c32_i32_5093 : BitVec 32 := 32#32
  let v3751 : BitVec 32 := Scalar.remsi v3750 c32_i32_5093
  let c1_i32_5100 : BitVec 32 := 1#32
  let v3752 : BitVec 32 := Scalar.muli v3751 c1_i32_5100
  let v3753 : BitVec 32 := Scalar.addi c0_i32_5101 v3752
  v3753.toNat
def k0_dev167 (d0 : Dev nD) : Nat :=
  let c0_i32_5115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5106 : BitVec 32 := 12#32
  let v3762 : BitVec 32 := Scalar.addi v2 c12_i32_5106
  let c32_i32_5107 : BitVec 32 := 32#32
  let v3763 : BitVec 32 := Scalar.remsi v3762 c32_i32_5107
  let c1_i32_5114 : BitVec 32 := 1#32
  let v3764 : BitVec 32 := Scalar.muli v3763 c1_i32_5114
  let v3765 : BitVec 32 := Scalar.addi c0_i32_5115 v3764
  v3765.toNat
def k0_dev168 (d0 : Dev nD) : Nat :=
  let c0_i32_5129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5120 : BitVec 32 := 13#32
  let v3774 : BitVec 32 := Scalar.addi v2 c13_i32_5120
  let c32_i32_5121 : BitVec 32 := 32#32
  let v3775 : BitVec 32 := Scalar.remsi v3774 c32_i32_5121
  let c1_i32_5128 : BitVec 32 := 1#32
  let v3776 : BitVec 32 := Scalar.muli v3775 c1_i32_5128
  let v3777 : BitVec 32 := Scalar.addi c0_i32_5129 v3776
  v3777.toNat
def k0_dev169 (d0 : Dev nD) : Nat :=
  let c0_i32_5143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5134 : BitVec 32 := 14#32
  let v3786 : BitVec 32 := Scalar.addi v2 c14_i32_5134
  let c32_i32_5135 : BitVec 32 := 32#32
  let v3787 : BitVec 32 := Scalar.remsi v3786 c32_i32_5135
  let c1_i32_5142 : BitVec 32 := 1#32
  let v3788 : BitVec 32 := Scalar.muli v3787 c1_i32_5142
  let v3789 : BitVec 32 := Scalar.addi c0_i32_5143 v3788
  v3789.toNat
def k0_dev170 (d0 : Dev nD) : Nat :=
  let c0_i32_5157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5148 : BitVec 32 := 15#32
  let v3798 : BitVec 32 := Scalar.addi v2 c15_i32_5148
  let c32_i32_5149 : BitVec 32 := 32#32
  let v3799 : BitVec 32 := Scalar.remsi v3798 c32_i32_5149
  let c1_i32_5156 : BitVec 32 := 1#32
  let v3800 : BitVec 32 := Scalar.muli v3799 c1_i32_5156
  let v3801 : BitVec 32 := Scalar.addi c0_i32_5157 v3800
  v3801.toNat
def k0_dev171 (d0 : Dev nD) : Nat :=
  let c0_i32_5171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5162 : BitVec 32 := 16#32
  let v3810 : BitVec 32 := Scalar.addi v2 c16_i32_5162
  let c32_i32_5163 : BitVec 32 := 32#32
  let v3811 : BitVec 32 := Scalar.remsi v3810 c32_i32_5163
  let c1_i32_5170 : BitVec 32 := 1#32
  let v3812 : BitVec 32 := Scalar.muli v3811 c1_i32_5170
  let v3813 : BitVec 32 := Scalar.addi c0_i32_5171 v3812
  v3813.toNat
def k0_dev172 (d0 : Dev nD) : Nat :=
  let c0_i32_5185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5176 : BitVec 32 := 17#32
  let v3822 : BitVec 32 := Scalar.addi v2 c17_i32_5176
  let c32_i32_5177 : BitVec 32 := 32#32
  let v3823 : BitVec 32 := Scalar.remsi v3822 c32_i32_5177
  let c1_i32_5184 : BitVec 32 := 1#32
  let v3824 : BitVec 32 := Scalar.muli v3823 c1_i32_5184
  let v3825 : BitVec 32 := Scalar.addi c0_i32_5185 v3824
  v3825.toNat
def k0_dev173 (d0 : Dev nD) : Nat :=
  let c0_i32_5199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5190 : BitVec 32 := 18#32
  let v3834 : BitVec 32 := Scalar.addi v2 c18_i32_5190
  let c32_i32_5191 : BitVec 32 := 32#32
  let v3835 : BitVec 32 := Scalar.remsi v3834 c32_i32_5191
  let c1_i32_5198 : BitVec 32 := 1#32
  let v3836 : BitVec 32 := Scalar.muli v3835 c1_i32_5198
  let v3837 : BitVec 32 := Scalar.addi c0_i32_5199 v3836
  v3837.toNat
def k0_dev174 (d0 : Dev nD) : Nat :=
  let c0_i32_5213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5204 : BitVec 32 := 19#32
  let v3846 : BitVec 32 := Scalar.addi v2 c19_i32_5204
  let c32_i32_5205 : BitVec 32 := 32#32
  let v3847 : BitVec 32 := Scalar.remsi v3846 c32_i32_5205
  let c1_i32_5212 : BitVec 32 := 1#32
  let v3848 : BitVec 32 := Scalar.muli v3847 c1_i32_5212
  let v3849 : BitVec 32 := Scalar.addi c0_i32_5213 v3848
  v3849.toNat
def k0_dev175 (d0 : Dev nD) : Nat :=
  let c0_i32_5227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5218 : BitVec 32 := 20#32
  let v3858 : BitVec 32 := Scalar.addi v2 c20_i32_5218
  let c32_i32_5219 : BitVec 32 := 32#32
  let v3859 : BitVec 32 := Scalar.remsi v3858 c32_i32_5219
  let c1_i32_5226 : BitVec 32 := 1#32
  let v3860 : BitVec 32 := Scalar.muli v3859 c1_i32_5226
  let v3861 : BitVec 32 := Scalar.addi c0_i32_5227 v3860
  v3861.toNat
def k0_dev176 (d0 : Dev nD) : Nat :=
  let c0_i32_5241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5232 : BitVec 32 := 21#32
  let v3870 : BitVec 32 := Scalar.addi v2 c21_i32_5232
  let c32_i32_5233 : BitVec 32 := 32#32
  let v3871 : BitVec 32 := Scalar.remsi v3870 c32_i32_5233
  let c1_i32_5240 : BitVec 32 := 1#32
  let v3872 : BitVec 32 := Scalar.muli v3871 c1_i32_5240
  let v3873 : BitVec 32 := Scalar.addi c0_i32_5241 v3872
  v3873.toNat
def k0_dev177 (d0 : Dev nD) : Nat :=
  let c0_i32_5255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5246 : BitVec 32 := 22#32
  let v3882 : BitVec 32 := Scalar.addi v2 c22_i32_5246
  let c32_i32_5247 : BitVec 32 := 32#32
  let v3883 : BitVec 32 := Scalar.remsi v3882 c32_i32_5247
  let c1_i32_5254 : BitVec 32 := 1#32
  let v3884 : BitVec 32 := Scalar.muli v3883 c1_i32_5254
  let v3885 : BitVec 32 := Scalar.addi c0_i32_5255 v3884
  v3885.toNat
def k0_dev178 (d0 : Dev nD) : Nat :=
  let c0_i32_5269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_5260 : BitVec 32 := 23#32
  let v3894 : BitVec 32 := Scalar.addi v2 c23_i32_5260
  let c32_i32_5261 : BitVec 32 := 32#32
  let v3895 : BitVec 32 := Scalar.remsi v3894 c32_i32_5261
  let c1_i32_5268 : BitVec 32 := 1#32
  let v3896 : BitVec 32 := Scalar.muli v3895 c1_i32_5268
  let v3897 : BitVec 32 := Scalar.addi c0_i32_5269 v3896
  v3897.toNat
def k0_dev179 (d0 : Dev nD) : Nat :=
  let c0_i32_5283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_5274 : BitVec 32 := 24#32
  let v3906 : BitVec 32 := Scalar.addi v2 c24_i32_5274
  let c32_i32_5275 : BitVec 32 := 32#32
  let v3907 : BitVec 32 := Scalar.remsi v3906 c32_i32_5275
  let c1_i32_5282 : BitVec 32 := 1#32
  let v3908 : BitVec 32 := Scalar.muli v3907 c1_i32_5282
  let v3909 : BitVec 32 := Scalar.addi c0_i32_5283 v3908
  v3909.toNat
def k0_dev180 (d0 : Dev nD) : Nat :=
  let c0_i32_5297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_5288 : BitVec 32 := 25#32
  let v3918 : BitVec 32 := Scalar.addi v2 c25_i32_5288
  let c32_i32_5289 : BitVec 32 := 32#32
  let v3919 : BitVec 32 := Scalar.remsi v3918 c32_i32_5289
  let c1_i32_5296 : BitVec 32 := 1#32
  let v3920 : BitVec 32 := Scalar.muli v3919 c1_i32_5296
  let v3921 : BitVec 32 := Scalar.addi c0_i32_5297 v3920
  v3921.toNat
def k0_dev181 (d0 : Dev nD) : Nat :=
  let c0_i32_5311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_5302 : BitVec 32 := 26#32
  let v3930 : BitVec 32 := Scalar.addi v2 c26_i32_5302
  let c32_i32_5303 : BitVec 32 := 32#32
  let v3931 : BitVec 32 := Scalar.remsi v3930 c32_i32_5303
  let c1_i32_5310 : BitVec 32 := 1#32
  let v3932 : BitVec 32 := Scalar.muli v3931 c1_i32_5310
  let v3933 : BitVec 32 := Scalar.addi c0_i32_5311 v3932
  v3933.toNat
def k0_dev182 (d0 : Dev nD) : Nat :=
  let c0_i32_5325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_5316 : BitVec 32 := 27#32
  let v3942 : BitVec 32 := Scalar.addi v2 c27_i32_5316
  let c32_i32_5317 : BitVec 32 := 32#32
  let v3943 : BitVec 32 := Scalar.remsi v3942 c32_i32_5317
  let c1_i32_5324 : BitVec 32 := 1#32
  let v3944 : BitVec 32 := Scalar.muli v3943 c1_i32_5324
  let v3945 : BitVec 32 := Scalar.addi c0_i32_5325 v3944
  v3945.toNat
def k0_dev183 (d0 : Dev nD) : Nat :=
  let c0_i32_5339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_5330 : BitVec 32 := 28#32
  let v3954 : BitVec 32 := Scalar.addi v2 c28_i32_5330
  let c32_i32_5331 : BitVec 32 := 32#32
  let v3955 : BitVec 32 := Scalar.remsi v3954 c32_i32_5331
  let c1_i32_5338 : BitVec 32 := 1#32
  let v3956 : BitVec 32 := Scalar.muli v3955 c1_i32_5338
  let v3957 : BitVec 32 := Scalar.addi c0_i32_5339 v3956
  v3957.toNat
def k0_dev184 (d0 : Dev nD) : Nat :=
  let c0_i32_5353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_5344 : BitVec 32 := 29#32
  let v3966 : BitVec 32 := Scalar.addi v2 c29_i32_5344
  let c32_i32_5345 : BitVec 32 := 32#32
  let v3967 : BitVec 32 := Scalar.remsi v3966 c32_i32_5345
  let c1_i32_5352 : BitVec 32 := 1#32
  let v3968 : BitVec 32 := Scalar.muli v3967 c1_i32_5352
  let v3969 : BitVec 32 := Scalar.addi c0_i32_5353 v3968
  v3969.toNat
def k0_dev185 (d0 : Dev nD) : Nat :=
  let c0_i32_5367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_5358 : BitVec 32 := 30#32
  let v3978 : BitVec 32 := Scalar.addi v2 c30_i32_5358
  let c32_i32_5359 : BitVec 32 := 32#32
  let v3979 : BitVec 32 := Scalar.remsi v3978 c32_i32_5359
  let c1_i32_5366 : BitVec 32 := 1#32
  let v3980 : BitVec 32 := Scalar.muli v3979 c1_i32_5366
  let v3981 : BitVec 32 := Scalar.addi c0_i32_5367 v3980
  v3981.toNat
def k0_dev186 (d0 : Dev nD) : Nat :=
  let c0_i32_5381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_5372 : BitVec 32 := 31#32
  let v3990 : BitVec 32 := Scalar.addi v2 c31_i32_5372
  let c32_i32_5373 : BitVec 32 := 32#32
  let v3991 : BitVec 32 := Scalar.remsi v3990 c32_i32_5373
  let c1_i32_5380 : BitVec 32 := 1#32
  let v3992 : BitVec 32 := Scalar.muli v3991 c1_i32_5380
  let v3993 : BitVec 32 := Scalar.addi c0_i32_5381 v3992
  v3993.toNat
def k0_dev187 (d0 : Dev nD) : Nat :=
  let c0_i32_5497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5488 : BitVec 32 := 1#32
  let v4082 : BitVec 32 := Scalar.addi v2 c1_i32_5488
  let c32_i32_5489 : BitVec 32 := 32#32
  let v4083 : BitVec 32 := Scalar.remsi v4082 c32_i32_5489
  let c1_i32_5496 : BitVec 32 := 1#32
  let v4084 : BitVec 32 := Scalar.muli v4083 c1_i32_5496
  let v4085 : BitVec 32 := Scalar.addi c0_i32_5497 v4084
  v4085.toNat
def k0_dev188 (d0 : Dev nD) : Nat :=
  let c0_i32_5511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5502 : BitVec 32 := 2#32
  let v4094 : BitVec 32 := Scalar.addi v2 c2_i32_5502
  let c32_i32_5503 : BitVec 32 := 32#32
  let v4095 : BitVec 32 := Scalar.remsi v4094 c32_i32_5503
  let c1_i32_5510 : BitVec 32 := 1#32
  let v4096 : BitVec 32 := Scalar.muli v4095 c1_i32_5510
  let v4097 : BitVec 32 := Scalar.addi c0_i32_5511 v4096
  v4097.toNat
def k0_dev189 (d0 : Dev nD) : Nat :=
  let c0_i32_5525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_5516 : BitVec 32 := 3#32
  let v4106 : BitVec 32 := Scalar.addi v2 c3_i32_5516
  let c32_i32_5517 : BitVec 32 := 32#32
  let v4107 : BitVec 32 := Scalar.remsi v4106 c32_i32_5517
  let c1_i32_5524 : BitVec 32 := 1#32
  let v4108 : BitVec 32 := Scalar.muli v4107 c1_i32_5524
  let v4109 : BitVec 32 := Scalar.addi c0_i32_5525 v4108
  v4109.toNat
def k0_dev190 (d0 : Dev nD) : Nat :=
  let c0_i32_5539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5530 : BitVec 32 := 4#32
  let v4118 : BitVec 32 := Scalar.addi v2 c4_i32_5530
  let c32_i32_5531 : BitVec 32 := 32#32
  let v4119 : BitVec 32 := Scalar.remsi v4118 c32_i32_5531
  let c1_i32_5538 : BitVec 32 := 1#32
  let v4120 : BitVec 32 := Scalar.muli v4119 c1_i32_5538
  let v4121 : BitVec 32 := Scalar.addi c0_i32_5539 v4120
  v4121.toNat
def k0_dev191 (d0 : Dev nD) : Nat :=
  let c0_i32_5553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5544 : BitVec 32 := 5#32
  let v4130 : BitVec 32 := Scalar.addi v2 c5_i32_5544
  let c32_i32_5545 : BitVec 32 := 32#32
  let v4131 : BitVec 32 := Scalar.remsi v4130 c32_i32_5545
  let c1_i32_5552 : BitVec 32 := 1#32
  let v4132 : BitVec 32 := Scalar.muli v4131 c1_i32_5552
  let v4133 : BitVec 32 := Scalar.addi c0_i32_5553 v4132
  v4133.toNat
def k0_dev192 (d0 : Dev nD) : Nat :=
  let c0_i32_5567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5558 : BitVec 32 := 6#32
  let v4142 : BitVec 32 := Scalar.addi v2 c6_i32_5558
  let c32_i32_5559 : BitVec 32 := 32#32
  let v4143 : BitVec 32 := Scalar.remsi v4142 c32_i32_5559
  let c1_i32_5566 : BitVec 32 := 1#32
  let v4144 : BitVec 32 := Scalar.muli v4143 c1_i32_5566
  let v4145 : BitVec 32 := Scalar.addi c0_i32_5567 v4144
  v4145.toNat
def k0_dev193 (d0 : Dev nD) : Nat :=
  let c0_i32_5581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5572 : BitVec 32 := 7#32
  let v4154 : BitVec 32 := Scalar.addi v2 c7_i32_5572
  let c32_i32_5573 : BitVec 32 := 32#32
  let v4155 : BitVec 32 := Scalar.remsi v4154 c32_i32_5573
  let c1_i32_5580 : BitVec 32 := 1#32
  let v4156 : BitVec 32 := Scalar.muli v4155 c1_i32_5580
  let v4157 : BitVec 32 := Scalar.addi c0_i32_5581 v4156
  v4157.toNat
def k0_dev194 (d0 : Dev nD) : Nat :=
  let c0_i32_5700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5691 : BitVec 32 := 8#32
  let v4242 : BitVec 32 := Scalar.addi v2 c8_i32_5691
  let c32_i32_5692 : BitVec 32 := 32#32
  let v4243 : BitVec 32 := Scalar.remsi v4242 c32_i32_5692
  let c1_i32_5699 : BitVec 32 := 1#32
  let v4244 : BitVec 32 := Scalar.muli v4243 c1_i32_5699
  let v4245 : BitVec 32 := Scalar.addi c0_i32_5700 v4244
  v4245.toNat
def k0_dev195 (d0 : Dev nD) : Nat :=
  let c0_i32_5714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5705 : BitVec 32 := 9#32
  let v4254 : BitVec 32 := Scalar.addi v2 c9_i32_5705
  let c32_i32_5706 : BitVec 32 := 32#32
  let v4255 : BitVec 32 := Scalar.remsi v4254 c32_i32_5706
  let c1_i32_5713 : BitVec 32 := 1#32
  let v4256 : BitVec 32 := Scalar.muli v4255 c1_i32_5713
  let v4257 : BitVec 32 := Scalar.addi c0_i32_5714 v4256
  v4257.toNat
def k0_dev196 (d0 : Dev nD) : Nat :=
  let c0_i32_5728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5719 : BitVec 32 := 10#32
  let v4266 : BitVec 32 := Scalar.addi v2 c10_i32_5719
  let c32_i32_5720 : BitVec 32 := 32#32
  let v4267 : BitVec 32 := Scalar.remsi v4266 c32_i32_5720
  let c1_i32_5727 : BitVec 32 := 1#32
  let v4268 : BitVec 32 := Scalar.muli v4267 c1_i32_5727
  let v4269 : BitVec 32 := Scalar.addi c0_i32_5728 v4268
  v4269.toNat
def k0_dev197 (d0 : Dev nD) : Nat :=
  let c0_i32_5742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5733 : BitVec 32 := 11#32
  let v4278 : BitVec 32 := Scalar.addi v2 c11_i32_5733
  let c32_i32_5734 : BitVec 32 := 32#32
  let v4279 : BitVec 32 := Scalar.remsi v4278 c32_i32_5734
  let c1_i32_5741 : BitVec 32 := 1#32
  let v4280 : BitVec 32 := Scalar.muli v4279 c1_i32_5741
  let v4281 : BitVec 32 := Scalar.addi c0_i32_5742 v4280
  v4281.toNat
def k0_dev198 (d0 : Dev nD) : Nat :=
  let c0_i32_5756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5747 : BitVec 32 := 12#32
  let v4290 : BitVec 32 := Scalar.addi v2 c12_i32_5747
  let c32_i32_5748 : BitVec 32 := 32#32
  let v4291 : BitVec 32 := Scalar.remsi v4290 c32_i32_5748
  let c1_i32_5755 : BitVec 32 := 1#32
  let v4292 : BitVec 32 := Scalar.muli v4291 c1_i32_5755
  let v4293 : BitVec 32 := Scalar.addi c0_i32_5756 v4292
  v4293.toNat
def k0_dev199 (d0 : Dev nD) : Nat :=
  let c0_i32_5770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5761 : BitVec 32 := 13#32
  let v4302 : BitVec 32 := Scalar.addi v2 c13_i32_5761
  let c32_i32_5762 : BitVec 32 := 32#32
  let v4303 : BitVec 32 := Scalar.remsi v4302 c32_i32_5762
  let c1_i32_5769 : BitVec 32 := 1#32
  let v4304 : BitVec 32 := Scalar.muli v4303 c1_i32_5769
  let v4305 : BitVec 32 := Scalar.addi c0_i32_5770 v4304
  v4305.toNat
def k0_dev200 (d0 : Dev nD) : Nat :=
  let c0_i32_5784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5775 : BitVec 32 := 14#32
  let v4314 : BitVec 32 := Scalar.addi v2 c14_i32_5775
  let c32_i32_5776 : BitVec 32 := 32#32
  let v4315 : BitVec 32 := Scalar.remsi v4314 c32_i32_5776
  let c1_i32_5783 : BitVec 32 := 1#32
  let v4316 : BitVec 32 := Scalar.muli v4315 c1_i32_5783
  let v4317 : BitVec 32 := Scalar.addi c0_i32_5784 v4316
  v4317.toNat
def k0_dev201 (d0 : Dev nD) : Nat :=
  let c0_i32_5798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5789 : BitVec 32 := 15#32
  let v4326 : BitVec 32 := Scalar.addi v2 c15_i32_5789
  let c32_i32_5790 : BitVec 32 := 32#32
  let v4327 : BitVec 32 := Scalar.remsi v4326 c32_i32_5790
  let c1_i32_5797 : BitVec 32 := 1#32
  let v4328 : BitVec 32 := Scalar.muli v4327 c1_i32_5797
  let v4329 : BitVec 32 := Scalar.addi c0_i32_5798 v4328
  v4329.toNat
def k0_dev202 (d0 : Dev nD) : Nat :=
  let c0_i32_5917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5908 : BitVec 32 := 16#32
  let v4414 : BitVec 32 := Scalar.addi v2 c16_i32_5908
  let c32_i32_5909 : BitVec 32 := 32#32
  let v4415 : BitVec 32 := Scalar.remsi v4414 c32_i32_5909
  let c1_i32_5916 : BitVec 32 := 1#32
  let v4416 : BitVec 32 := Scalar.muli v4415 c1_i32_5916
  let v4417 : BitVec 32 := Scalar.addi c0_i32_5917 v4416
  v4417.toNat
def k0_dev203 (d0 : Dev nD) : Nat :=
  let c0_i32_5931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5922 : BitVec 32 := 17#32
  let v4426 : BitVec 32 := Scalar.addi v2 c17_i32_5922
  let c32_i32_5923 : BitVec 32 := 32#32
  let v4427 : BitVec 32 := Scalar.remsi v4426 c32_i32_5923
  let c1_i32_5930 : BitVec 32 := 1#32
  let v4428 : BitVec 32 := Scalar.muli v4427 c1_i32_5930
  let v4429 : BitVec 32 := Scalar.addi c0_i32_5931 v4428
  v4429.toNat
def k0_dev204 (d0 : Dev nD) : Nat :=
  let c0_i32_5945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5936 : BitVec 32 := 18#32
  let v4438 : BitVec 32 := Scalar.addi v2 c18_i32_5936
  let c32_i32_5937 : BitVec 32 := 32#32
  let v4439 : BitVec 32 := Scalar.remsi v4438 c32_i32_5937
  let c1_i32_5944 : BitVec 32 := 1#32
  let v4440 : BitVec 32 := Scalar.muli v4439 c1_i32_5944
  let v4441 : BitVec 32 := Scalar.addi c0_i32_5945 v4440
  v4441.toNat
def k0_dev205 (d0 : Dev nD) : Nat :=
  let c0_i32_5959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5950 : BitVec 32 := 19#32
  let v4450 : BitVec 32 := Scalar.addi v2 c19_i32_5950
  let c32_i32_5951 : BitVec 32 := 32#32
  let v4451 : BitVec 32 := Scalar.remsi v4450 c32_i32_5951
  let c1_i32_5958 : BitVec 32 := 1#32
  let v4452 : BitVec 32 := Scalar.muli v4451 c1_i32_5958
  let v4453 : BitVec 32 := Scalar.addi c0_i32_5959 v4452
  v4453.toNat
def k0_dev206 (d0 : Dev nD) : Nat :=
  let c0_i32_5973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5964 : BitVec 32 := 20#32
  let v4462 : BitVec 32 := Scalar.addi v2 c20_i32_5964
  let c32_i32_5965 : BitVec 32 := 32#32
  let v4463 : BitVec 32 := Scalar.remsi v4462 c32_i32_5965
  let c1_i32_5972 : BitVec 32 := 1#32
  let v4464 : BitVec 32 := Scalar.muli v4463 c1_i32_5972
  let v4465 : BitVec 32 := Scalar.addi c0_i32_5973 v4464
  v4465.toNat
def k0_dev207 (d0 : Dev nD) : Nat :=
  let c0_i32_5987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5978 : BitVec 32 := 21#32
  let v4474 : BitVec 32 := Scalar.addi v2 c21_i32_5978
  let c32_i32_5979 : BitVec 32 := 32#32
  let v4475 : BitVec 32 := Scalar.remsi v4474 c32_i32_5979
  let c1_i32_5986 : BitVec 32 := 1#32
  let v4476 : BitVec 32 := Scalar.muli v4475 c1_i32_5986
  let v4477 : BitVec 32 := Scalar.addi c0_i32_5987 v4476
  v4477.toNat
def k0_dev208 (d0 : Dev nD) : Nat :=
  let c0_i32_6001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5992 : BitVec 32 := 22#32
  let v4486 : BitVec 32 := Scalar.addi v2 c22_i32_5992
  let c32_i32_5993 : BitVec 32 := 32#32
  let v4487 : BitVec 32 := Scalar.remsi v4486 c32_i32_5993
  let c1_i32_6000 : BitVec 32 := 1#32
  let v4488 : BitVec 32 := Scalar.muli v4487 c1_i32_6000
  let v4489 : BitVec 32 := Scalar.addi c0_i32_6001 v4488
  v4489.toNat
def k0_dev209 (d0 : Dev nD) : Nat :=
  let c0_i32_6015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_6006 : BitVec 32 := 23#32
  let v4498 : BitVec 32 := Scalar.addi v2 c23_i32_6006
  let c32_i32_6007 : BitVec 32 := 32#32
  let v4499 : BitVec 32 := Scalar.remsi v4498 c32_i32_6007
  let c1_i32_6014 : BitVec 32 := 1#32
  let v4500 : BitVec 32 := Scalar.muli v4499 c1_i32_6014
  let v4501 : BitVec 32 := Scalar.addi c0_i32_6015 v4500
  v4501.toNat
def k0_dev210 (d0 : Dev nD) : Nat :=
  let c0_i32_6134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6125 : BitVec 32 := 24#32
  let v4586 : BitVec 32 := Scalar.addi v2 c24_i32_6125
  let c32_i32_6126 : BitVec 32 := 32#32
  let v4587 : BitVec 32 := Scalar.remsi v4586 c32_i32_6126
  let c1_i32_6133 : BitVec 32 := 1#32
  let v4588 : BitVec 32 := Scalar.muli v4587 c1_i32_6133
  let v4589 : BitVec 32 := Scalar.addi c0_i32_6134 v4588
  v4589.toNat
def k0_dev211 (d0 : Dev nD) : Nat :=
  let c0_i32_6148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6139 : BitVec 32 := 25#32
  let v4598 : BitVec 32 := Scalar.addi v2 c25_i32_6139
  let c32_i32_6140 : BitVec 32 := 32#32
  let v4599 : BitVec 32 := Scalar.remsi v4598 c32_i32_6140
  let c1_i32_6147 : BitVec 32 := 1#32
  let v4600 : BitVec 32 := Scalar.muli v4599 c1_i32_6147
  let v4601 : BitVec 32 := Scalar.addi c0_i32_6148 v4600
  v4601.toNat
def k0_dev212 (d0 : Dev nD) : Nat :=
  let c0_i32_6162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6153 : BitVec 32 := 26#32
  let v4610 : BitVec 32 := Scalar.addi v2 c26_i32_6153
  let c32_i32_6154 : BitVec 32 := 32#32
  let v4611 : BitVec 32 := Scalar.remsi v4610 c32_i32_6154
  let c1_i32_6161 : BitVec 32 := 1#32
  let v4612 : BitVec 32 := Scalar.muli v4611 c1_i32_6161
  let v4613 : BitVec 32 := Scalar.addi c0_i32_6162 v4612
  v4613.toNat
def k0_dev213 (d0 : Dev nD) : Nat :=
  let c0_i32_6176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_6167 : BitVec 32 := 27#32
  let v4622 : BitVec 32 := Scalar.addi v2 c27_i32_6167
  let c32_i32_6168 : BitVec 32 := 32#32
  let v4623 : BitVec 32 := Scalar.remsi v4622 c32_i32_6168
  let c1_i32_6175 : BitVec 32 := 1#32
  let v4624 : BitVec 32 := Scalar.muli v4623 c1_i32_6175
  let v4625 : BitVec 32 := Scalar.addi c0_i32_6176 v4624
  v4625.toNat
def k0_dev214 (d0 : Dev nD) : Nat :=
  let c0_i32_6190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_6181 : BitVec 32 := 28#32
  let v4634 : BitVec 32 := Scalar.addi v2 c28_i32_6181
  let c32_i32_6182 : BitVec 32 := 32#32
  let v4635 : BitVec 32 := Scalar.remsi v4634 c32_i32_6182
  let c1_i32_6189 : BitVec 32 := 1#32
  let v4636 : BitVec 32 := Scalar.muli v4635 c1_i32_6189
  let v4637 : BitVec 32 := Scalar.addi c0_i32_6190 v4636
  v4637.toNat
def k0_dev215 (d0 : Dev nD) : Nat :=
  let c0_i32_6204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_6195 : BitVec 32 := 29#32
  let v4646 : BitVec 32 := Scalar.addi v2 c29_i32_6195
  let c32_i32_6196 : BitVec 32 := 32#32
  let v4647 : BitVec 32 := Scalar.remsi v4646 c32_i32_6196
  let c1_i32_6203 : BitVec 32 := 1#32
  let v4648 : BitVec 32 := Scalar.muli v4647 c1_i32_6203
  let v4649 : BitVec 32 := Scalar.addi c0_i32_6204 v4648
  v4649.toNat
def k0_dev216 (d0 : Dev nD) : Nat :=
  let c0_i32_6218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6209 : BitVec 32 := 30#32
  let v4658 : BitVec 32 := Scalar.addi v2 c30_i32_6209
  let c32_i32_6210 : BitVec 32 := 32#32
  let v4659 : BitVec 32 := Scalar.remsi v4658 c32_i32_6210
  let c1_i32_6217 : BitVec 32 := 1#32
  let v4660 : BitVec 32 := Scalar.muli v4659 c1_i32_6217
  let v4661 : BitVec 32 := Scalar.addi c0_i32_6218 v4660
  v4661.toNat
def k0_dev217 (d0 : Dev nD) : Nat :=
  let c0_i32_6232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6223 : BitVec 32 := 31#32
  let v4670 : BitVec 32 := Scalar.addi v2 c31_i32_6223
  let c32_i32_6224 : BitVec 32 := 32#32
  let v4671 : BitVec 32 := Scalar.remsi v4670 c32_i32_6224
  let c1_i32_6231 : BitVec 32 := 1#32
  let v4672 : BitVec 32 := Scalar.muli v4671 c1_i32_6231
  let v4673 : BitVec 32 := Scalar.addi c0_i32_6232 v4672
  v4673.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x128 : Shape := ⟨2, ![4096, 128]⟩
abbrev S128x8192 : Shape := ⟨2, ![128, 8192]⟩
abbrev S8192x128 : Shape := ⟨2, ![8192, 128]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S128x8192, .bf16⟩
  | .hbm, ⟨3, _⟩ => ⟨S128x8192, .bf16⟩
  | .hbm, ⟨4, _⟩ => ⟨S8192x128, .bf16⟩
  | .hbm, ⟨5, _⟩ => ⟨S8192x128, .bf16⟩
  | .hbm, ⟨6, _⟩ => ⟨S8192x128, .bf16⟩
  | .hbm, ⟨7, _⟩ => ⟨S4096x8192, .f32⟩
  | .hbm, ⟨8, _⟩ => ⟨S4096x8192, .bf16⟩
  | .hbm, ⟨9, _⟩ => ⟨S_, .bf16⟩
  | .hbm, ⟨10, _⟩ => ⟨S4096x8192, .bf16⟩
  | .hbm, ⟨11, _⟩ => ⟨S4096x8192, .bf16⟩
  | .hbm, ⟨12, _⟩ => ⟨S4096x128, .f32⟩
  | .hbm, ⟨13, _⟩ => ⟨S4096x128, .bf16⟩
  | .hbm, ⟨14, _⟩ => ⟨S4096x8192, .f32⟩
  | .hbm, ⟨15, _⟩ => ⟨S4096x8192, .bf16⟩
  | .hbm, ⟨16, _⟩ => ⟨S_, .bf16⟩
  | .hbm, ⟨17, _⟩ => ⟨S4096x8192, .bf16⟩
  | .hbm, ⟨18, _⟩ => ⟨S4096x8192, .bf16⟩
  | .hbm, ⟨19, _⟩ => ⟨S4096x128, .f32⟩
  | .hbm, ⟨20, _⟩ => ⟨S4096x128, .bf16⟩
  | .hbm, ⟨21, _⟩ => ⟨S4096x8192, .f32⟩
  | .hbm, ⟨22, _⟩ => ⟨S4096x8192, .bf16⟩
  | .hbm, ⟨23, _⟩ => ⟨S_, .bf16⟩
  | .hbm, ⟨24, _⟩ => ⟨S4096x8192, .bf16⟩
  | .hbm, ⟨25, _⟩ => ⟨S4096x8192, .bf16⟩
  | .hbm, ⟨26, _⟩ => ⟨S4096x128, .f32⟩
  | .hbm, ⟨27, _⟩ => ⟨S4096x128, .bf16⟩
  | .hbm, ⟨28, _⟩ => ⟨S4096x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Ideal.Loop.lean ====
/-
  The kernel's body as loops over the offset `o = 1 … 31` to the other devices.

  The printed body writes every iteration of its loops out. `loopBody` below is the same program with each loop a fold over
  the list of its offsets, and `body_eq` says so. Device `c`'s neighbour at offset `o` is `c + o`, in `Fin 32`; the slot and the
  semaphore that a copy at offset `o` lands on there is `-o`, as seen from that neighbour the offset of `c`.
-/
module

public import proofs.«01_k».proof.Proof.Gen.KernelIdeal.Skeleton
public import Idealize.ShloMosaic.Lib.Pipeline.Regions

@[expose] public section

set_option maxRecDepth 65536

noncomputable section

namespace Cert.KernelIdeal.Mlp

open Idealize.ShloMosaic Idealize.ShloMosaic.TcCoe
open Idealize.SL Idealize.SL.Sem
open Cert.KernelIdeal.Gen

variable {F : FTy → Type} [FloatOps F]

/-! ## Slots, semaphores, devices -/

abbrev xM : Memref sig .tc .vmem S128x128 .bf16 := Memref.whole cc0_stg0_0
abbrev oM : Memref sig .tc .vmem S128x128 .f32 := Memref.whole cc0_stg7_0
/-- The gathered activations, the partial results received, the partial results to send: a slot per offset each. -/
abbrev xgM : Memref sig .tc .vmem S32x128x128 .bf16 := Memref.whole cc0_scratch0
abbrev pgM : Memref sig .tc .vmem S32x128x128 .bf16 := Memref.whole cc0_scratch1
abbrev psM : Memref sig .tc .vmem S32x128x128 .bf16 := Memref.whole cc0_scratch2

theorem inb_slot : ∀ o : Fin 32, ∀ a, (![o.val, 0, 0] : Fin 3 → Nat) a + S1x128x128.size a ≤ S32x128x128.size a := by decide
theorem inb_sem : ∀ (k : Fin 2) (o : Fin 32), ∀ a, (![k.val, o.val] : Fin 2 → Nat) a + S1x1.size a ≤ S2x32.size a := by decide

abbrev slotR (o : Fin 32) : Rect S32x128x128 := Rect.unit (s := S32x128x128) ![o.val, 0, 0] S1x128x128.size (inb_slot o)
theorem words_slot (o : Fin 32) : (slotR o).WholeWords (EltTy.packing .bf16) := by revert o; decide

/-- Slot `o` of a buffer of 32 slots. -/
abbrev slotM (M : Memref sig .tc .vmem S32x128x128 .bf16) (o : Fin 32) : Memref sig .tc .vmem S128x128 .bf16 :=
  (M.slice (slotR o) (fun _ => rfl)).squeeze S128x128 squeezes_S1x128x128_S128x128
theorem slot_words {M : Memref sig .tc .vmem S32x128x128 .bf16} (h : M.IsWhole) (o : Fin 32) : (slotM M o).view.WordExact :=
  (h.wordExact_slice rfl _ (words_slot o)).reshape _ _

/-- Semaphore `(k, o)` of an array of two rows: row 0 is the gather's, row 1 the scatter's. -/
abbrev semAt (A : DmaSems sig S2x32) (k : Fin 2) (o : Fin 32) : DmaSem sig :=
  ((A.slice (Rect.unit (s := S2x32) ![k.val, o.val] S1x1.size (inb_sem k o))).squeeze S_ squeezes_S1x1_S_).sem
abbrev sendAt (k : Fin 2) (o : Fin 32) : DmaSem sig := semAt cc0_scratch3 k o
abbrev recvAt (k : Fin 2) (o : Fin 32) : DmaSem sig := semAt cc0_scratch4 k o
abbrev barS : Sem sig := (SemArray.scalar (sig.barrier 0 rfl) : Sems sig S_).sem

/-- The neighbour at offset `o`, as the kernel computes it. -/
def peerN (d0 : Dev nD) (o : Fin 32) : Nat :=
  (Scalar.addi 0#32 (Scalar.muli (Scalar.remsi (Scalar.addi (Scalar.remsi (Scalar.divsi (Dev.word d0) 1#32) 32#32) (BitVec.ofNat 32 o.val)) 32#32) 1#32)).toNat
theorem peerN_lt : ∀ (d0 : Dev nD) (o : Fin 32), peerN d0 o < nD := by decide +kernel
abbrev peer (d0 : Dev nD) (o : Fin 32) : Dev nD := ⟨peerN d0 o, peerN_lt d0 o⟩
theorem peer_eq : ∀ (d0 : Dev nD) (o : Fin 32), peer d0 o = d0 + o := by decide +kernel

/-! ## The body -/

abbrev P (F : FTy → Type) [FloatOps F] := Prog (TpuEff nD τ sig (Elt F) Λ₀ .tc) PUnit

/-- The offsets, and the four groups they are worked off in. -/
abbrev offs : List (Fin 32) := [1, 2, 3, 4, 5, 6, 7, 8, 9, 10, 11, 12, 13, 14, 15, 16, 17, 18, 19, 20, 21, 22, 23, 24, 25, 26, 27, 28, 29, 30, 31]
abbrev offs0 : List (Fin 32) := [1, 2, 3, 4, 5, 6, 7]
abbrev offs1 : List (Fin 32) := [8, 9, 10, 11, 12, 13, 14, 15]
abbrev offs2 : List (Fin 32) := [16, 17, 18, 19, 20, 21, 22, 23]
abbrev offs3 : List (Fin 32) := [24, 25, 26, 27, 28, 29, 30, 31]

/-- One signal to each neighbour's barrier. -/
def signals (c : Dev nD) (os : List (Fin 32)) (k : P F) : P F :=
  os.foldr (fun o k => .op (.semSignal (peer c o, .tc) barS (1#32).toInt) fun _ => k) k

/-- This device's activations to each neighbour. -/
def gather (c : Dev nD) (os : List (Fin 32)) (k : P F) : P F :=
  os.foldr (fun o k => .op (.enqueueDma (slotM xgM 0) (.remote (Dev.tc (peer c o)) (slotM xgM (-o)) (.dma (sendAt 0 o))) (.dma (recvAt 0 (-o)))
    (slot_words (Memref.isWhole_whole _) 0) (slot_words (Memref.isWhole_whole _) (-o)) ⟨⟨rfl, Or.inl rfl⟩, trivial⟩) fun _ => k) k

def gatherWaits (os : List (Fin 32)) (k : P F) : P F :=
  os.foldr (fun o k => .op (.waitDma2 (recvAt 0 o) (slotM xgM 0) (slotM xgM o)
    (slot_words (Memref.isWhole_whole _) 0) (slot_words (Memref.isWhole_whole _) o)) fun _ => k) k

/-- To each neighbour this device's part of that neighbour's result. -/
def scatter (c : Dev nD) (os : List (Fin 32)) (k : P F) : P F :=
  os.foldr (fun o k => .op (.enqueueDma (slotM psM o) (.remote (Dev.tc (peer c o)) (slotM pgM (-o)) (.dma (sendAt 1 o))) (.dma (recvAt 1 (-o)))
    (slot_words (Memref.isWhole_whole _) o) (slot_words (Memref.isWhole_whole _) (-o)) ⟨⟨rfl, Or.inl rfl⟩, trivial⟩) fun _ => k) k

def scatterWaits (os : List (Fin 32)) (k : P F) : P F :=
  os.foldr (fun o k => .op (.waitDma2 (recvAt 1 o) (slotM psM 0) (slotM pgM o)
    (slot_words (Memref.isWhole_whole _) 0) (slot_words (Memref.isWhole_whole _) o)) fun _ => k) k

def sendWaits (os : List (Fin 32)) (k : P F) : P F :=
  os.foldr (fun o k => .op (.waitDma2 (sendAt 0 o) (slotM xgM (-o)) (slotM xgM 0)
      (slot_words (Memref.isWhole_whole _) (-o)) (slot_words (Memref.isWhole_whole _) 0)) fun _ =>
    .op (.waitDma2 (sendAt 1 o) (slotM pgM (-o)) (slotM psM o)
      (slot_words (Memref.isWhole_whole _) (-o)) (slot_words (Memref.isWhole_whole _) o)) fun _ => k) k

abbrev rX : Rect S128x128 := Rect.unit (s := S128x128) ![0, 0] S128x128.size inb_S128x128_S128x128_0_0
abbrev rIn : Rect S128x256 := Rect.unit (s := S128x256) ![0, 0] S128x256.size inb_S128x256_S128x256_0_0
abbrev rOut : Rect S256x128 := Rect.unit (s := S256x128) ![0, 0] S256x128.size inb_S256x128_S256x128_0_0
abbrev r7 : Rect S32x128x128 := Rect.unit (s := S32x128x128) ![1, 0, 0] S7x128x128.size inb_S32x128x128_S7x128x128_1_0_0
abbrev r8 : Rect S32x128x128 := Rect.unit (s := S32x128x128) ![8, 0, 0] S8x128x128.size inb_S32x128x128_S8x128x128_8_0_0
abbrev r16 : Rect S32x128x128 := Rect.unit (s := S32x128x128) ![16, 0, 0] S8x128x128.size inb_S32x128x128_S8x128x128_16_0_0
abbrev r24 : Rect S32x128x128 := Rect.unit (s := S32x128x128) ![24, 0, 0] S8x128x128.size inb_S32x128x128_S8x128x128_24_0_0
abbrev r32 : Rect S32x128x128 := Rect.unit (s := S32x128x128) ![0, 0, 0] S32x128x128.size inb_S32x128x128_S32x128x128_0_0_0

/-- Slot 0 of a buffer replaced. -/
def put0 (M : Memref sig .tc .vmem S32x128x128 .bf16) (hM : M.IsWhole) (v : FVec F S1x128x128 .bf16) (k : P F) : P F :=
  .op (.load M (slotR 0).toLoadRect (View.loadsAt_vmem h_S1x128x128)) fun (_ : Vec F S1x128x128 .bf16) =>
    .op (.store M (slotR 0) v Finset.univ (View.stores_vmem h_S1x128x128 (hM.storeExact_slice rfl _ packedbf16_S32x128x128_S1x128x128_0_0_0) (fun _ => rfl)) (.inl rfl)) fun _ => k

/-- A group of slots: the products of the gathered activations into the slots to send. -/
def group7 (wi : FVec F S128x256 .bf16) (wo : FVec F S256x128 .bf16) (k : P F) : P F :=
  .op (.load xgM r7.toLoadRect (View.loadsAt_vmem h_S7x128x128)) fun (v : Vec F S7x128x128 .bf16) =>
    .op (.load psM r7.toLoadRect (View.loadsAt_vmem h_S7x128x128)) fun (_ : Vec F S7x128x128 .bf16) =>
      .op (.store psM r7 (k0_pay6 wi wo v) Finset.univ (View.stores_vmem h_S7x128x128 ((Memref.isWhole_whole _).storeExact_slice rfl _ packedbf16_S32x128x128_S7x128x128_1_0_0) (fun _ => rfl)) (.inl rfl)) fun _ => k

/-- One layer, from the weights' staging buffers, to the continuation of the layer's result. -/
def layer (c : Dev nD) (wiM : Memref sig .tc .vmem S128x256 .bf16) (woM : Memref sig .tc .vmem S256x128 .bf16) (k : FVec F S128x128 .f32 → P F) : P F :=
  .op (.load wiM rIn.toLoadRect (View.loadsAt_vmem h_S128x256)) fun (w1 : Vec F S128x256 .bf16) =>
  .op (.load woM rOut.toLoadRect (View.loadsAt_vmem h_S256x128)) fun (w2 : Vec F S256x128 .bf16) =>
  gather c offs <|
  .op (.load xgM (slotR 0).toLoadRect (View.loadsAt_vmem h_S1x128x128)) fun (x0 : Vec F S1x128x128 .bf16) =>
  put0 pgM (Memref.isWhole_whole _) (k0_pay5 (k0_pay3 w1) (k0_pay4 w2) x0) <|
  gatherWaits offs0 <|
  group7 (k0_pay3 w1) (k0_pay4 w2) <|
  scatter c offs0 <|
  gatherWaits offs1 <|
  (.op (.load xgM r8.toLoadRect (View.loadsAt_vmem h_S8x128x128)) fun (v : Vec F S8x128x128 .bf16) =>
    .op (.load psM r8.toLoadRect (View.loadsAt_vmem h_S8x128x128)) fun (_ : Vec F S8x128x128 .bf16) =>
      .op (.store psM r8 (k0_pay9 (k0_pay3 w1) (k0_pay4 w2) v) Finset.univ (View.stores_vmem h_S8x128x128 ((Memref.isWhole_whole _).storeExact_slice rfl _ packedbf16_S32x128x128_S8x128x128_8_0_0) (fun _ => rfl)) (.inl rfl)) fun _ =>
  scatter c offs1 <|
  gatherWaits offs2 <|
  .op (.load xgM r16.toLoadRect (View.loadsAt_vmem h_S8x128x128)) fun (v : Vec F S8x128x128 .bf16) =>
    .op (.load psM r16.toLoadRect (View.loadsAt_vmem h_S8x128x128)) fun (_ : Vec F S8x128x128 .bf16) =>
      .op (.store psM r16 (k0_pay9 (k0_pay3 w1) (k0_pay4 w2) v) Finset.univ (View.stores_vmem h_S8x128x128 ((Memref.isWhole_whole _).storeExact_slice rfl _ packedbf16_S32x128x128_S8x128x128_16_0_0) (fun _ => rfl)) (.inl rfl)) fun _ =>
  scatter c offs2 <|
  gatherWaits offs3 <|
  .op (.load xgM r24.toLoadRect (View.loadsAt_vmem h_S8x128x128)) fun (v : Vec F S8x128x128 .bf16) =>
    .op (.load psM r24.toLoadRect (View.loadsAt_vmem h_S8x128x128)) fun (_ : Vec F S8x128x128 .bf16) =>
      .op (.store psM r24 (k0_pay9 (k0_pay3 w1) (k0_pay4 w2) v) Finset.univ (View.stores_vmem h_S8x128x128 ((Memref.isWhole_whole _).storeExact_slice rfl _ packedbf16_S32x128x128_S8x128x128_24_0_0) (fun _ => rfl)) (.inl rfl)) fun _ =>
  scatter c offs3 <|
  scatterWaits offs <|
  .op (.load pgM r32.toLoadRect (View.loadsAt_vmem h_S32x128x128)) fun (p : Vec F S32x128x128 .bf16) =>
  sendWaits offs <|
  put0 xgM (Memref.isWhole_whole _) (k0_pay13 (k0_pay12 (k0_pay11 p))) <|
  k (k0_pay11 p))

/-- The body: the handshake, the first activations, three layers, the result. -/
def loopBody : P F :=
  .op .deviceId fun (c : Dev nD) =>
  signals c offs <|
  .op (.semWait barS (31#32).toInt) fun _ =>
  .op (.load xM rX.toLoadRect (View.loadsAt_vmem h_S128x128)) fun (x : Vec F S128x128 .bf16) =>
  put0 xgM (Memref.isWhole_whole _) (k0_pay2 x) <|
  layer c (Memref.whole cc0_stg1_0) (Memref.whole cc0_stg2_0) fun _ =>
  layer c (Memref.whole cc0_stg3_0) (Memref.whole cc0_stg4_0) fun _ =>
  layer c (Memref.whole cc0_stg5_0) (Memref.whole cc0_stg6_0) fun y =>
  .op (.load oM rX.toLoadRect (View.loadsAt_vmem h_S128x128)) fun (_ : Vec F S128x128 .f32) =>
  .op (.store oM rX y Finset.univ (View.stores_vmem_bits_univ h_S128x128 rfl) (.inl rfl)) fun _ => .ret ⟨⟩

abbrev printedBody : P F :=
  cc0_body_skel (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4

theorem body_eq : (printedBody : P F) = loopBody := by chain_rfl

end Cert.KernelIdeal.Mlp

end
-- ==== Proof.Ideal.Slots.lean ====
/-
  A buffer of 32 slots, held slot by slot: one slot's points-to, a load and a store over a run of slots, the whole buffer as
  its slots, and a slot's share cut into 32.
-/
module

public import proofs.«01_k».proof.Proof.Ideal.Loop
public import Idealize.ShloMosaic.Lib.Pipeline.Kit
public import Idealize.ShloMosaic.Lib.Pipeline.BigSepL
public import Idealize.ShloMosaic.Lib.Pipeline.Launch
public import Idealize.ShloMosaic.Lib.ShareLeaves
public import Idealize.ShloMosaic.Lib.ValueLayout
public import Idealize.ShloMosaic.Lib.ViewIndex
public import Idealize.ShloMosaic.Lib.Tactic

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

/-- The ghost state: the pipeline's rounds beside the protocol's, whose duties are named by offsets. -/
abbrev UB : Type := URounds (GSem nD τ sig) (Fin 32)
abbrev UU : Type := UR sig nD τ × UB

local notation "𝕄" => MT nD τ sig ℕ (Elt F) ℕ UU ℕ

instance elt_nonempty (e : EltTy) : Nonempty (Elt F e) := by
  cases e <;> first
    | exact ⟨(FloatOps.ofBits _ 0 : F _)⟩
    | exact ⟨(0 : BitVec _)⟩

abbrev 𝒱₀ : Variants := Variants.none
/-- What a program on device `c` must meet to end in `Q`. -/
abbrev WP (c : Dev nD) (p : P F) (Q : PUnit → sProp 𝕄) : sProp 𝕄 := wp frame (wpE (defs₀ (F := F)) 𝒱₀ (c : Thread nD τ) none) Set.univ p Q

/-! ## Indices -/

theorem ex_ix2 (j : S128x128.Idx) : ∃ a b : Fin 128, j = ix2 a b := ⟨_, _, eq_ix2 j⟩
theorem ex_ix3 {m : ℕ} (j : (⟨3, ![m, 128, 128]⟩ : Shape).Idx) : ∃ (i : Fin m) (a b : Fin 128), j = ix3 i a b := ⟨_, _, _, eq_ix3 j⟩

section Index
variable (M : Memref sig .tc .vmem S32x128x128 .bf16)

/-- A run of `m` slots from slot `lo`. -/
abbrev runR (lo m : ℕ) (h : ∀ a, (![lo, 0, 0] : Fin 3 → Nat) a + (⟨3, ![m, 128, 128]⟩ : Shape).size a ≤ S32x128x128.size a) : Rect S32x128x128 :=
  Rect.unit (s := S32x128x128) ![lo, 0, 0] (⟨3, ![m, 128, 128]⟩ : Shape).size h

theorem run_lt {lo m : ℕ} (h : ∀ a, (![lo, 0, 0] : Fin 3 → Nat) a + (⟨3, ![m, 128, 128]⟩ : Shape).size a ≤ S32x128x128.size a) (i : Fin m) : lo + i.val < 32 := by
  have := h 0; simp at this; omega

theorem run_emb {lo m : ℕ} (h : ∀ a, (![lo, 0, 0] : Fin 3 → Nat) a + (⟨3, ![m, 128, 128]⟩ : Shape).size a ≤ S32x128x128.size a)
    (i : Fin m) (a b : Fin 128) : (runR lo m h).emb (ix3 i a b) = ix3 (⟨lo + i.val, run_lt h i⟩ : Fin 32) a b := by
  funext d
  refine Fin.ext ?_
  rw [Rect.emb_apply]
  fin_cases d
  · show lo + 1 * i.val = lo + i.val; omega
  · show 0 + 1 * a.val = a.val; omega
  · show 0 + 1 * b.val = b.val; omega

theorem slot_emb (o : Fin 32) (a b : Fin 128) : (slotM M o).view.emb (ix2 a b) = M.view.emb (ix3 o a b) := by
  show M.view.emb ((slotR o).emb (Shape.reshapeEquiv _ (ix2 a b))) = _
  rw [reshapeEquiv_ix2_1ab]
  refine congrArg _ ((run_emb (lo := o.val) (m := 1) (inb_slot o) 0 a b).trans ?_)
  congr 1

theorem slot_read (o : Fin 32) (f : M.view.ty.Contents (Elt F)) (a b : Fin 128) :
    (slotM M o).view.read (Elt F) f (ix2 a b) = M.view.read (Elt F) f (ix3 o a b) := by
  show M.view.read (Elt F) f ((slotR o).emb (Shape.reshapeEquiv _ (ix2 a b))) = _
  rw [reshapeEquiv_ix2_1ab]
  refine congrArg _ ((run_emb (lo := o.val) (m := 1) (inb_slot o) 0 a b).trans ?_)
  congr 1

theorem slot_set_disjoint {o o' : Fin 32} (h : o ≠ o') : Disjoint (slotM M o).view.set (slotM M o').view.set := by
  rw [Finset.disjoint_left]
  intro i hi hi'
  obtain ⟨x, -, rfl⟩ := Finset.mem_map.mp hi
  obtain ⟨y, -, e⟩ := Finset.mem_map.mp hi'
  obtain ⟨a, b, rfl⟩ := ex_ix2 x
  obtain ⟨a', b', rfl⟩ := ex_ix2 y
  rw [slot_emb, slot_emb] at e
  exact h (congrFun (M.view.emb.injective e) 0).symm

/-- Contents made of 32 slots. -/
def glue (X : Fin 32 → Vec F S128x128 .bf16) : Vec F S32x128x128 .bf16 := fun i => X (i 0) (ix2 (i 1) (i 2))
/-- A run of slots, as a value. -/
def run (lo m : ℕ) (X : Fin 32 → Vec F S128x128 .bf16) : Vec F ⟨3, ![m, 128, 128]⟩ .bf16 :=
  fun i => X (Fin.ofNat 32 (lo + (i 0).val)) (ix2 (i 1) (i 2))
/-- Slot `o` of a value over a run of slots from `lo`. -/
def unrun (lo m : ℕ) (w : Vec F ⟨3, ![m, 128, 128]⟩ .bf16) (hm : 0 < m) (o : Fin 32) : Vec F S128x128 .bf16 :=
  fun j => w (ix3 (⟨(o.val - lo) % m, Nat.mod_lt _ hm⟩ : Fin m) (j 0) (j 1))

end Index

/-! ## One slot -/

section Slot
variable (M : Memref sig .tc .vmem S32x128x128 .bf16) (c : Dev nD)

/-- Slot `o` of the buffer on device `c` at `v`. -/
def slotPts (q : PosShare TreeShare) (o : Fin 32) (v : Vec F S128x128 .bf16) : sProp 𝕄 :=
  (slotM M o).view.loc (c : Thread nD τ) ↦[(slotM M o).view.set]{q} (slotM M o).view.rep v
/-- Slot `o` at anything. -/
def slotAny (o : Fin 32) : sProp 𝕄 := iprop(∃ v, slotPts (F := F) M c fullShare o v)

instance slotPts_storable (q : PosShare TreeShare) (o : Fin 32) (v : Vec F S128x128 .bf16) : BI.Storable (upEmb : UEmb _ 𝕄) (slotPts M c q o v) := by
  unfold slotPts; infer_instance
instance slotAny_storable (o : Fin 32) : BI.Storable (upEmb : UEmb _ 𝕄) (slotAny (F := F) M c o) := by
  unfold slotAny; infer_instance

theorem slotPts_eq (q : PosShare TreeShare) (o : Fin 32) (f : Buf (Elt F) (M.view.loc (c : Thread nD τ))) :
    (M.view.loc (c : Thread nD τ) ↦[(slotM M o).view.set]{q} f : sProp 𝕄) = slotPts M c q o ((slotM M o).view.read (Elt F) f) := by
  unfold slotPts
  exact pointsTo_rep (c : Thread nD τ) (slotM M o) f q

theorem slotPts_any (o : Fin 32) (v : Vec F S128x128 .bf16) : (slotPts M c fullShare o v : sProp 𝕄) ⊢ slotAny (F := F) M c o := by
  unfold slotAny; iintro H; iexists v; iexact H

/-- A slot rewritten whole. -/
theorem slot_write (o : Fin 32) (f : Buf (Elt F) (M.view.loc (c : Thread nD τ))) (w : Vec F S128x128 .bf16) :
    ((slotM M o).view.loc (c : Thread nD τ) ↦[(slotM M o).view.set]{fullShare} ((slotM M o).view.write (Elt F) f w Finset.univ) : sProp 𝕄) = slotPts M c fullShare o w := by
  refine (slotPts_eq M c fullShare o _).trans ?_
  rw [View.read_write_univ]

/-- The share slot 0 is cut into: one for each offset. -/
def cut (o : Fin 32) : PosShare TreeShare := ShareLeaves.leaf 5 fullShare o

theorem slotPts_cut (o : Fin 32) (v : Vec F S128x128 .bf16) :
    (slotPts M c fullShare o v : sProp 𝕄) = bigSep Finset.univ fun i : Fin 32 => slotPts M c (cut i) o v := by
  unfold slotPts
  exact ShareLeaves.pointsTo_leaves _ _ 5 fullShare

end Slot

/-! ## A run of slots -/

section Run
variable (M : Memref sig .tc .vmem S32x128x128 .bf16) (c : Dev nD)

theorem slots_merge (q : PosShare TreeShare) (os : List (Fin 32)) (hn : os.Nodup) (f : Buf (Elt F) (M.view.loc (c : Thread nD τ))) :
    (bigSepL os fun o => slotPts M c q o ((slotM M o).view.read (Elt F) f) : sProp 𝕄)
      = M.view.loc (c : Thread nD τ) ↦[os.toFinset.biUnion fun o => (slotM M o).view.set]{q} f := by
  rw [pointsTo_biUnion _ _ (fun o _ o' _ h => slot_set_disjoint M h), bigSep_eq_bigSepL_of_eq os rfl hn]
  congr 1; funext o; exact (slotPts_eq M c q o f).symm

theorem glue_read (X : Fin 32 → Vec F S128x128 .bf16) (o : Fin 32) :
    (slotM M o).view.read (Elt F) (M.view.rep (glue X)) = X o := by
  funext j
  obtain ⟨a, b, rfl⟩ := ex_ix2 j
  rw [slot_read, View.read_rep]; rfl

theorem slots_merge_glue (q : PosShare TreeShare) (os : List (Fin 32)) (hn : os.Nodup) (X : Fin 32 → Vec F S128x128 .bf16) :
    (bigSepL os fun o => slotPts M c q o (X o) : sProp 𝕄)
      = M.view.loc (c : Thread nD τ) ↦[os.toFinset.biUnion fun o => (slotM M o).view.set]{q} (M.view.rep (glue X)) := by
  refine Eq.trans ?_ (slots_merge M c q os hn (M.view.rep (glue X)))
  exact congrArg (bigSepL os) (funext fun o => congrArg (slotPts M c q o) (glue_read M X o).symm)

theorem run_set_subset {lo m : ℕ} (h : ∀ a, (![lo, 0, 0] : Fin 3 → Nat) a + (⟨3, ![m, 128, 128]⟩ : Shape).size a ≤ S32x128x128.size a)
    (os : List (Fin 32)) (ho : ∀ i : Fin m, (⟨lo + i.val, run_lt h i⟩ : Fin 32) ∈ os) :
    (M.access (runR lo m h)).set ⊆ os.toFinset.biUnion fun o => (slotM M o).view.set := by
  intro i hi
  obtain ⟨x, rfl⟩ := View.exists_of_mem_set_slice hi
  obtain ⟨i, a, b, rfl⟩ := ex_ix3 x
  rw [run_emb, ← slot_emb]
  exact Finset.mem_biUnion.mpr ⟨_, List.mem_toFinset.mpr (ho _), View.emb_mem_set _ _⟩

theorem run_read {lo m : ℕ} (h : ∀ a, (![lo, 0, 0] : Fin 3 → Nat) a + (⟨3, ![m, 128, 128]⟩ : Shape).size a ≤ S32x128x128.size a)
    (X : Fin 32 → Vec F S128x128 .bf16) : (M.access (runR lo m h)).read (Elt F) (M.view.rep (glue X)) = run lo m X := by
  funext x
  show M.view.read (Elt F) _ ((runR lo m h).emb x) = _
  obtain ⟨i, a, b, rfl⟩ := ex_ix3 x
  rw [View.read_rep, run_emb]
  show X _ _ = X _ _
  congr 1
  refine Fin.ext ?_
  have := run_lt h i
  exact (Nat.mod_eq_of_lt this).symm

theorem run_write {lo m : ℕ} (h : ∀ a, (![lo, 0, 0] : Fin 3 → Nat) a + (⟨3, ![m, 128, 128]⟩ : Shape).size a ≤ S32x128x128.size a)
    (hm : 0 < m) (f : Buf (Elt F) (M.view.loc (c : Thread nD τ))) (w : Vec F ⟨3, ![m, 128, 128]⟩ .bf16) (o : Fin 32) (ho : lo ≤ o.val ∧ o.val < lo + m) :
    (slotM M o).view.read (Elt F) ((M.access (runR lo m h)).write (Elt F) f w Finset.univ) = unrun lo m w hm o := by
  funext j
  obtain ⟨a, b, rfl⟩ := ex_ix2 j
  have e : (o.val - lo) % m = o.val - lo := Nat.mod_eq_of_lt (by omega)
  have hi : ix3 o a b = (runR lo m h).emb (ix3 (⟨(o.val - lo) % m, Nat.mod_lt _ hm⟩ : Fin m) a b) := by
    rw [run_emb]; congr 1; exact Fin.ext (by show o.val = lo + (o.val - lo) % m; omega)
  rw [slot_read, hi, View.read_slice_write_emb _ _ _ (Finset.mem_univ _)]
  rfl

/-- A load of a run of slots held at `X`. -/
theorem wp_load_run {lo m : ℕ} {h : ∀ a, (![lo, 0, 0] : Fin 3 → Nat) a + (⟨3, ![m, 128, 128]⟩ : Shape).size a ≤ S32x128x128.size a}
    {hl : M.view.LoadsAt (runR lo m h).toLoadRect} {k : Vec F ⟨3, ![m, 128, 128]⟩ .bf16 → P F} {Q : PUnit → sProp 𝕄}
    (q : PosShare TreeShare) (os : List (Fin 32)) (hn : os.Nodup) (ho : ∀ i : Fin m, (⟨lo + i.val, run_lt h i⟩ : Fin 32) ∈ os) (X : Fin 32 → Vec F S128x128 .bf16) :
    (bigSepL os fun o => slotPts M c q o (X o) : sProp 𝕄)
      ⊢ iprop(((bigSepL os fun o => slotPts M c q o (X o)) -∗ WP c (k (run lo m X)) Q)
        -∗ WP c (.op (.load M (runR lo m h).toLoadRect hl) k) Q) := by
  rw [slots_merge_glue M c q os hn X, ← run_read M h X]
  exact wp_load_rect 𝒱₀ (c : Thread nD τ) none Set.univ (m := M) (r := runR lo m h) (run_set_subset M h os ho)

theorem slots_any (os : List (Fin 32)) (hn : os.Nodup) :
    (bigSepL os fun o => slotAny (F := F) M c o : sProp 𝕄) ⊢ iprop(∃ X : Fin 32 → Vec F S128x128 .bf16, bigSepL os fun o => slotPts M c fullShare o (X o)) := by
  induction os with
  | nil => iintro H; iexists (fun _ _ => Classical.choice (elt_nonempty (F := F) .bf16)); iexact H
  | cons o os ih =>
    rw [bigSepL_cons']
    obtain ⟨ho, hn⟩ := List.nodup_cons.mp hn
    iintro ⟨H, HS⟩
    ihave HS := (ih hn) $$ HS
    unfold slotAny
    icases H with ⟨%v, H⟩
    icases HS with ⟨%X, HS⟩
    iexists Function.update X o v
    rw [bigSepL_cons', Function.update_self]
    isplitl [H]; · iexact H
    iapply (bigSepL_mono (Φ := fun o => slotPts M c fullShare o (X o)) fun o' ho' =>
      Entails.of_eq (congrArg (slotPts M c fullShare o') (Function.update_of_ne (show o' ≠ o from fun e => ho (by rw [← e]; exact ho')) v X).symm))
    iexact HS

theorem slots_to_any (os : List (Fin 32)) (X : Fin 32 → Vec F S128x128 .bf16) :
    (bigSepL os fun o => slotPts M c fullShare o (X o) : sProp 𝕄) ⊢ bigSepL os fun o => slotAny (F := F) M c o :=
  bigSepL_mono fun o _ => slotPts_any M c o (X o)

/-- A load of a run of slots held at anything, whose value is not used. -/
theorem wp_load_any {lo m : ℕ} {h : ∀ a, (![lo, 0, 0] : Fin 3 → Nat) a + (⟨3, ![m, 128, 128]⟩ : Shape).size a ≤ S32x128x128.size a}
    {hl : M.view.LoadsAt (runR lo m h).toLoadRect} {k : P F} {Q : PUnit → sProp 𝕄}
    (os : List (Fin 32)) (hn : os.Nodup) (ho : ∀ i : Fin m, (⟨lo + i.val, run_lt h i⟩ : Fin 32) ∈ os) :
    (bigSepL os fun o => slotAny (F := F) M c o : sProp 𝕄)
      ⊢ iprop(((bigSepL os fun o => slotAny (F := F) M c o) -∗ WP c k Q)
        -∗ WP c (.op (.load M (runR lo m h).toLoadRect hl) fun _ => k) Q) := by
  iintro H Hk
  ihave H := (slots_any M c os hn) $$ H
  icases H with ⟨%X, H⟩
  iapply (wp_load_run M c fullShare os hn ho X) $$ H
  iintro H
  iapply Hk
  iapply (slots_to_any M c os X); iexact H

/-- A store over a run of slots. -/
theorem wp_store_run {lo m : ℕ} {h : ∀ a, (![lo, 0, 0] : Fin 3 → Nat) a + (⟨3, ![m, 128, 128]⟩ : Shape).size a ≤ S32x128x128.size a} (hm : 0 < m)
    {w : Vec F ⟨3, ![m, 128, 128]⟩ .bf16} {hx : (M.access (runR lo m h)).Stores Finset.univ} {hu : Finset.univ = Finset.univ ∨ ∀ a, (runR lo m h).stride a = 1}
    {k : P F} {Q : PUnit → sProp 𝕄}
    (os : List (Fin 32)) (hn : os.Nodup) (ho : ∀ i : Fin m, (⟨lo + i.val, run_lt h i⟩ : Fin 32) ∈ os) (ho' : ∀ o ∈ os, lo ≤ o.val ∧ o.val < lo + m) :
    (bigSepL os fun o => slotAny (F := F) M c o : sProp 𝕄)
      ⊢ iprop(((bigSepL os fun o => slotPts M c fullShare o (unrun lo m w hm o)) -∗ WP c k Q)
        -∗ WP c (.op (.store M (runR lo m h) w Finset.univ hx hu) fun _ => k) Q) := by
  iintro H Hk
  ihave H := (slots_any M c os hn) $$ H
  icases H with ⟨%X, H⟩
  ihave H := (Entails.of_eq (slots_merge_glue M c fullShare os hn X)) $$ H
  iapply (wp_store 𝒱₀ (c : Thread nD τ) none Set.univ (m := M) (r := runR lo m h) (Mk := Finset.univ) (run_set_subset M h os ho)) $$ H
  iintro H
  iapply Hk
  ihave H := (Entails.of_eq (slots_merge M c fullShare os hn _).symm) $$ H
  iapply (bigSepL_mono (Φ := fun o => slotPts M c fullShare o ((slotM M o).view.read (Elt F) ((M.access (runR lo m h)).write (Elt F) (M.view.rep (glue X)) w Finset.univ)))
    fun o hm' => by rw [run_write M c h hm _ w o (ho' o hm')])
  iexact H

end Run

end Cert.KernelIdeal.Mlp

end
-- ==== Proof.Ideal.Sched.lean ====
/-
  The protocol: what each device computes per layer, the semaphore cells, what each cell's rounds hand over, what a device
  owes, and the order of the waits.

  Device `c` and its neighbour at offset `o` speak through slot `o` of `c`'s buffers and slot `-o` of the neighbour's. In
  layer `l` (round `l` of every transfer cell) the neighbour sends its activations into `c`'s slot `o` of the gathered
  activations and its partial result into `c`'s slot `o` of the partial results. Each message also hands back the slot that
  the next message the other way will land in.
-/
module

public import proofs.«01_k».proof.Proof.Ideal.Slots

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Values -/

/-- What the devices start from: their activations, and their weights layer by layer. -/
structure Inp (F : FTy → Type) where
  x : Dev nD → Vec F S128x128 .bf16
  wi : ℕ → Dev nD → Vec F S128x256 .bf16
  wo : ℕ → Dev nD → Vec F S256x128 .bf16

/-- Slot `o` of the products of the activations `A o`, as the kernel computes them: slot 0 alone, then group by group. -/
def prods (wi : Vec F S128x256 .bf16) (wo : Vec F S256x128 .bf16) (A : Fin 32 → Vec F S128x128 .bf16) (o : Fin 32) : Vec F S128x128 .bf16 :=
  if o.val = 0 then unrun 0 1 (k0_pay5 (k0_pay3 wi) (k0_pay4 wo) (run 0 1 A)) Nat.one_pos o
  else if o.val < 8 then unrun 1 7 (k0_pay6 (k0_pay3 wi) (k0_pay4 wo) (run 1 7 A)) (by decide) o
  else if o.val < 16 then unrun 8 8 (k0_pay9 (k0_pay3 wi) (k0_pay4 wo) (run 8 8 A)) (by decide) o
  else if o.val < 24 then unrun 16 8 (k0_pay9 (k0_pay3 wi) (k0_pay4 wo) (run 16 8 A)) (by decide) o
  else unrun 24 8 (k0_pay9 (k0_pay3 wi) (k0_pay4 wo) (run 24 8 A)) (by decide) o

/-- The sum over the devices of the parts `B o` of a result. -/
def total (B : Fin 32 → Vec F S128x128 .bf16) : FVec F S128x128 .f32 := k0_pay11 (run 0 32 B)
/-- A layer's result, as the next layer's activations. -/
def next (y : FVec F S128x128 .f32) : Vec F S128x128 .bf16 := unrun 0 1 (k0_pay13 (k0_pay12 y)) Nat.one_pos 0

/-- Device `c`'s activations entering layer `l`. -/
def act (I : Inp F) : ℕ → Dev nD → Vec F S128x128 .bf16
  | 0, c => unrun 0 1 (k0_pay2 (I.x c)) Nat.one_pos 0
  | l + 1, c => next (total fun o => prods (I.wi l (c + o)) (I.wo l (c + o)) (fun o' => act I l (c + o + o')) (-o))
/-- Device `d`'s part of its neighbour's result at offset `o`. -/
def part (I : Inp F) (l : ℕ) (d : Dev nD) (o : Fin 32) : Vec F S128x128 .bf16 :=
  prods (I.wi l d) (I.wo l d) (fun o' => act I l (d + o')) o
/-- Device `c`'s result of layer `l`. -/
def res (I : Inp F) (l : ℕ) (c : Dev nD) : FVec F S128x128 .f32 := total fun o => part I l (c + o) (-o)
theorem act_succ (I : Inp F) (l : ℕ) (c : Dev nD) : act I (l + 1) c = next (res I l c) := rfl

/-! ## Cells -/

abbrev barCell (c : Dev nD) : GSem nD τ sig := ((c : Thread nD τ), .reg barS)
abbrev sendCell (c : Dev nD) (k : Fin 2) (o : Fin 32) : GSem nD τ sig := ((c : Thread nD τ), .dma (sendAt k o))
abbrev recvCell (c : Dev nD) (k : Fin 2) (o : Fin 32) : GSem nD τ sig := ((c : Thread nD τ), .dma (recvAt k o))

/-- A device's cells: the barrier, then the transfers' — `false` for the sending side, `true` for the receiving. -/
abbrev CI : Type := Option (Bool × Fin 2 × Fin 32)
abbrev osem : Bool × Fin 2 × Fin 32 → SemLoc sig := fun i => if i.1 then .dma (recvAt i.2.1 i.2.2) else .dma (sendAt i.2.1 i.2.2)
abbrev csem : CI → SemLoc sig := fun | none => .reg barS | some i => osem i

theorem osem_injective : Function.Injective osem := by
  have h : ∀ (k : Fin 2) (o : Fin 32), (sendAt k o).val = 8 + 32 * k.val + o.val ∧ (recvAt k o).val = 72 + 32 * k.val + o.val := by decide +kernel
  rintro ⟨b, k, o⟩ ⟨b', k', o'⟩ e
  have h1 := h k o
  have h2 := h k' o'
  have := k.isLt; have := k'.isLt; have := o.isLt; have := o'.isLt
  cases b <;> cases b' <;> simp only [osem, if_true, if_false, Bool.false_eq_true, SemLoc.dma.injEq] at e <;>
    · have e' := congrArg Fin.val e
      first
        | (exfalso; omega)
        | (have hk : k = k' := Fin.ext (by omega)
           have ho : o = o' := Fin.ext (by omega)
           rw [hk, ho])

theorem osem_ne_bar (i : Bool × Fin 2 × Fin 32) : osem i ≠ .reg barS := by
  rcases i with ⟨_ | _, k, o⟩ <;> (intro h; cases h)

theorem csem_injective : Function.Injective csem := by
  rintro (_ | i) (_ | j) e
  · rfl
  · exact absurd e.symm (osem_ne_bar j)
  · exact absurd e (osem_ne_bar i)
  · exact congrArg some (osem_injective e)

/-- Which of its device's cells a semaphore is. -/
def dec (s : SemLoc sig) : Option CI := Function.partialInv csem s
theorem dec_csem (i : CI) : dec (csem i) = some i := Function.partialInv_left csem_injective i
theorem dec_bar : dec (.reg barS) = some none := dec_csem none
theorem dec_send (k : Fin 2) (o : Fin 32) : dec (.dma (sendAt k o)) = some (some (false, k, o)) := dec_csem (some (false, k, o))
theorem dec_recv (k : Fin 2) (o : Fin 32) : dec (.dma (recvAt k o)) = some (some (true, k, o)) := dec_csem (some (true, k, o))

/-- A slot's credit. -/
abbrev N : ℕ := (slotM xgM 0).view.dmaCredit
theorem N_pos : 0 < N := View.dmaCredit_pos _ (by decide)

/-! ## The schedule -/

section Sched
variable (I : Inp F)

/-- What the neighbour's activations bring: themselves, the slot there that this device's part lands in, and that the
    neighbour has reached the round. -/
def gatherPay (c : Dev nD) (l : ℕ) (o : Fin 32) : sProp 𝕄 :=
  iprop(slotPts xgM c fullShare o (act I l (c + o)) ∗ slotAny (F := F) pgM (c + o) (-o) ∗ reached ER (recvCell (c + o) 1 (-o)) l)
/-- What a part brings besides itself, unless it is the last layer's: the slot that this device's next activations land in. -/
def giveX (c : Dev nD) (l : ℕ) (o : Fin 32) : sProp 𝕄 :=
  if l < 2 then iprop(slotAny (F := F) xgM (c + o) (-o) ∗ reached ER (recvCell (c + o) 0 (-o)) (l + 1)) else iprop(emp)
def scatterPay (c : Dev nD) (l : ℕ) (o : Fin 32) : sProp 𝕄 :=
  iprop(slotPts pgM c fullShare o (part I l (c + o) (-o)) ∗ giveX (F := F) c l o)

instance gatherPay_storable (c : Dev nD) (l : ℕ) (o : Fin 32) : BI.Storable (upEmb : UEmb _ 𝕄) (gatherPay I c l o) := by
  unfold gatherPay; infer_instance
instance scatterPay_storable (c : Dev nD) (l : ℕ) (o : Fin 32) : BI.Storable (upEmb : UEmb _ 𝕄) (scatterPay I c l o) := by
  unfold scatterPay giveX; split <;> infer_instance

def payI (c : Dev nD) (l : ℕ) (d : Fin 32) : CI → sProp 𝕄
  | none => slotAny (F := F) xgM (c + d) (-d)
  | some (false, 0, o) => slotPts xgM c (cut o) 0 (act I l c)
  | some (false, 1, o) => slotPts psM c fullShare o (part I l c o)
  | some (true, 0, o) => gatherPay I c l o
  | some (true, 1, o) => scatterPay I c l o

instance payI_storable (c : Dev nD) (l : ℕ) (d : Fin 32) (i : CI) : BI.Storable (upEmb : UEmb _ 𝕄) (payI I c l d i) := by
  rcases i with _ | ⟨_ | _, k, o⟩
  · exact slotAny_storable _ _ _
  · match k with
    | 0 => exact slotPts_storable _ _ _ _ _
    | 1 => exact slotPts_storable _ _ _ _ _
  · match k with
    | 0 => exact gatherPay_storable _ _ _ _
    | 1 => exact scatterPay_storable _ _ _ _

def dutiesI (r : ℕ) : CI → Finset (Fin 32)
  | none => if r = 0 then Finset.univ.erase 0 else ∅
  | some (_, _, o) => if r < 3 ∧ o ≠ 0 then {0} else ∅

def amountI : CI → ℕ
  | none => 1
  | some _ => N

/-- The barrier cell has one round with a duty per neighbour; a transfer cell three rounds of one duty each. -/
def rd : Schedule (GSem nD τ sig) (Fin 32) 𝕄 where
  duties g r := if g.1.2 = .tc then (dec g.2).elim ∅ (dutiesI r) else ∅
  unitless _ := False
  amount g _ _ := (dec g.2).elim 1 amountI
  payload g r d := (dec g.2).elim iprop(emp) (payI I g.1.1 r d)
  amount_pos g _ _ _ := by
    rcases dec g.2 with _ | _ | i
    · exact Nat.one_pos
    · exact Nat.one_pos
    · exact N_pos

instance rd_payload_storable (g : GSem nD τ sig) (r : ℕ) (d : Fin 32) : BI.Storable (upEmb : UEmb _ 𝕄) ((rd I).payload g r d) := by
  show BI.Storable upEmb ((dec g.2).elim iprop(emp) (payI I g.1.1 r d))
  rcases dec g.2 with _ | i
  · exact inferInstanceAs (BI.Storable upEmb iprop(emp))
  · exact payI_storable I _ _ _ _

variable (c : Dev nD) (k : Fin 2) (o d : Fin 32) (l : ℕ)

theorem duties_bar : (rd I).duties (barCell c) 0 = Finset.univ.erase 0 := by
  dsimp only [rd]; rw [if_pos rfl, dec_bar]; rfl
theorem duties_send (hl : l < 3) (ho : o ≠ 0) : (rd I).duties (sendCell c k o) l = {0} := by
  dsimp only [rd]; rw [if_pos rfl, dec_send]; exact if_pos ⟨hl, ho⟩
theorem duties_recv (hl : l < 3) (ho : o ≠ 0) : (rd I).duties (recvCell c k o) l = {0} := by
  dsimp only [rd]; rw [if_pos rfl, dec_recv]; exact if_pos ⟨hl, ho⟩

/-- The round a cell ends at. -/
def fin : CI → ℕ
  | none => 1
  | some (_, _, o) => if o = 0 then 0 else 3
theorem duties_fin (i : CI) : ∀ r, fin i ≤ r → (rd I).duties ((c : Thread nD τ), csem i) r = ∅ := fun r hr => by
  dsimp only [rd]; rw [if_pos rfl, dec_csem]
  rcases i with _ | ⟨b, k, o⟩
  · exact if_neg (by replace hr : 1 ≤ r := hr; omega)
  · refine if_neg fun h => ?_
    replace hr : (if o = 0 then 0 else 3) ≤ r := hr
    rw [if_neg h.2] at hr; omega

theorem amount_bar : (rd I).amount (barCell c) l d = 1 := by dsimp only [rd]; rw [dec_bar]; rfl
theorem amount_send : (rd I).amount (sendCell c k o) l d = N := by dsimp only [rd]; rw [dec_send]; rfl
theorem amount_recv : (rd I).amount (recvCell c k o) l d = N := by dsimp only [rd]; rw [dec_recv]; rfl

theorem expect_bar : (rd I).expect (barCell c) 0 = 31 := by
  unfold Schedule.expect Schedule.amountOf
  rw [duties_bar, Finset.sum_congr rfl fun d _ => amount_bar I c d 0]; decide
theorem expect_send (hl : l < 3) (ho : o ≠ 0) : (rd I).expect (sendCell c k o) l = N := by
  unfold Schedule.expect Schedule.amountOf; rw [duties_send I c k o l hl ho, Finset.sum_singleton, amount_send]
theorem expect_recv (hl : l < 3) (ho : o ≠ 0) : (rd I).expect (recvCell c k o) l = N := by
  unfold Schedule.expect Schedule.amountOf; rw [duties_recv I c k o l hl ho, Finset.sum_singleton, amount_recv]

theorem payload_bar : (rd I).payload (barCell c) l d = slotAny (F := F) xgM (c + d) (-d) := by dsimp only [rd]; rw [dec_bar]; rfl
theorem payload_send0 : (rd I).payload (sendCell c 0 o) l d = slotPts xgM c (cut o) 0 (act I l c) := by dsimp only [rd]; rw [dec_send]; rfl
theorem payload_send1 : (rd I).payload (sendCell c 1 o) l d = slotPts psM c fullShare o (part I l c o) := by dsimp only [rd]; rw [dec_send]; rfl
theorem payload_recv0 : (rd I).payload (recvCell c 0 o) l d = gatherPay I c l o := by dsimp only [rd]; rw [dec_recv]; rfl
theorem payload_recv1 : (rd I).payload (recvCell c 1 o) l d = scatterPay I c l o := by dsimp only [rd]; rw [dec_recv]; rfl

theorem rest_of {g : GSem nD τ sig} (h : (rd I).duties g l = {0}) :
    bigSep ((rd I).duties g l \ ∅) (fun d => (rd I).payload g l d) = (rd I).payload g l 0 := by
  rw [Finset.sdiff_empty, h, bigSep_singleton]
theorem rest_bar : bigSep ((rd I).duties (barCell c) 0 \ ∅) (fun d => (rd I).payload (barCell c) 0 d) = bigSepL offs fun d => slotAny (F := F) xgM (c + d) (-d) := by
  rw [Finset.sdiff_empty, duties_bar, bigSep_eq_bigSepL_of_eq offs (by decide) (by decide)]
  exact congrArg (bigSepL offs) (funext fun d => payload_bar I c d 0)

end Sched

/-! ## What is owed, and the levels -/

/-- What device `c` owes its neighbour's cells in layer `l`: its activations, its part. -/
def oX (c : Dev nD) (l : ℕ) (o : Fin 32) : CellTallies nD τ sig ℕ := tallyAt (recvCell (c + o) 0 (-o)) l N
def oP (c : Dev nD) (l : ℕ) (o : Fin 32) : CellTallies nD τ sig ℕ := tallyAt (recvCell (c + o) 1 (-o)) l N
def oB (c : Dev nD) (o : Fin 32) : CellTallies nD τ sig ℕ := tallyAt (barCell (c + o)) 0 1
def sumO (os : List (Fin 32)) (f : Fin 32 → CellTallies nD τ sig ℕ) : CellTallies nD τ sig ℕ := (os.map f).sum
/-- From layer `l` on. -/
def owedFrom (c : Dev nD) (l : ℕ) : CellTallies nD τ sig ℕ := ∑ l' ∈ Finset.Ico l 3, (sumO offs (oP c l') + sumO offs (oX c l'))
def owedAll (c : Dev nD) : CellTallies nD τ sig ℕ := owedFrom c 0 + sumO offs (oB c)

theorem sumO_cons (o : Fin 32) (os : List (Fin 32)) (f : Fin 32 → CellTallies nD τ sig ℕ) : sumO (o :: os) f = sumO os f + f o := by
  unfold sumO; rw [List.map_cons, List.sum_cons, add_comm]
theorem sumO_nil (f : Fin 32 → CellTallies nD τ sig ℕ) : sumO [] f = 0 := rfl
theorem owedFrom_step (c : Dev nD) {l : ℕ} (hl : l < 3) : owedFrom c l = owedFrom c (l + 1) + sumO offs (oP c l) + sumO offs (oX c l) := by
  unfold owedFrom
  rw [show Finset.Ico l 3 = insert l (Finset.Ico (l + 1) 3) by ext; simp; omega, Finset.sum_insert (by simp)]
  exact (add_comm _ _).trans (add_assoc _ _ _).symm
theorem owedFrom_three (c : Dev nD) : owedFrom c 3 = 0 := rfl

/-- A core's waits go by layer; -/
def L (g : GSem nD τ sig) : Finset ℕ := if g.1.2 = .tc then Finset.range 3 else ∅
/-- the barrier first, then layer by layer the activations, then the parts. -/
def lv (g : GSem nD τ sig) (ι : ℕ) : ℕ := (dec g.2).elim 0 fun | none => 1 | some (false, _, _) => 0 | some (true, k, _) => 2 * ι + 2 + k.val

theorem L_of_ne (g : GSem nD τ sig) (h : g.1.2 ≠ .tc) : L g = ∅ := if_neg h
theorem L_tc (c : Dev nD) (sm : SemLoc sig) : L ((c : Thread nD τ), sm) = Finset.range 3 := if_pos rfl

theorem lv_bar (c : Dev nD) (ι : ℕ) : lv (barCell c) ι = 1 := by unfold lv; rw [dec_bar]; rfl
theorem lv_send (c : Dev nD) (k : Fin 2) (o : Fin 32) (ι : ℕ) : lv (sendCell c k o) ι = 0 := by unfold lv; rw [dec_send]; rfl
theorem lv_recv (c : Dev nD) (k : Fin 2) (o : Fin 32) (ι : ℕ) : lv (recvCell c k o) ι = 2 * ι + 2 + k.val := by unfold lv; rw [dec_recv]; rfl

/-- Everything owed is above level `b`. -/
def Above (b : ℕ) (O : CellTallies nD τ sig ℕ) : Prop := ∀ (g : GSem nD τ sig) (ι : ℕ), 0 < O g ι → ι ∈ L g ∧ b < lv g ι

theorem above_zero (b : ℕ) : Above b 0 := fun g ι h => absurd h (Nat.lt_irrefl 0)
theorem above_add {b : ℕ} {O O' : CellTallies nD τ sig ℕ} (h : Above b O) (h' : Above b O') : Above b (O + O') := fun g ι hg => by
  rw [Pi.add_apply, Finsupp.add_apply] at hg
  rcases Nat.eq_zero_or_pos (O g ι) with e | e
  · exact h' g ι (by omega)
  · exact h g ι e
theorem above_tally {b : ℕ} {c : Dev nD} {sm : SemLoc sig} {ι n : ℕ} (hι : ι < 3) (h : b < lv ((c : Thread nD τ), sm) ι) :
    Above b (tallyAt ((c : Thread nD τ), sm) ι n) := fun g u hg => by
  rw [tallyAt_apply] at hg
  by_cases e : g = ((c : Thread nD τ), sm) ∧ u = ι
  · rw [e.1, e.2, L_tc]; exact ⟨Finset.mem_range.mpr hι, h⟩
  · rw [if_neg e] at hg; exact absurd hg (Nat.lt_irrefl 0)
theorem above_sum {b : ℕ} {f : Fin 32 → CellTallies nD τ sig ℕ} (h : ∀ o, Above b (f o)) (os : List (Fin 32)) : Above b (sumO os f) := by
  induction os with
  | nil => exact above_zero b
  | cons o os ih => rw [sumO_cons]; exact above_add ih (h o)
theorem above_oX (c : Dev nD) {l b : ℕ} (hl : l < 3) (h : b < 2 * l + 2) (o : Fin 32) : Above b (oX c l o) :=
  above_tally hl (by rw [lv_recv]; exact h)
theorem above_oP (c : Dev nD) {l b : ℕ} (hl : l < 3) (h : b < 2 * l + 3) (o : Fin 32) : Above b (oP c l o) :=
  above_tally hl (by rw [lv_recv]; exact h)
theorem above_oB (c : Dev nD) (o : Fin 32) : Above 0 (oB c o) := above_tally (by decide) (by rw [lv_bar]; decide)
theorem above_from (c : Dev nD) {l b : ℕ} (h : b < 2 * l + 2) : Above b (owedFrom c l) := by
  unfold owedFrom
  refine Finset.sum_induction _ (Above b) (fun _ _ => above_add) (above_zero b) fun l' hl' => ?_
  obtain ⟨h1, h2⟩ := Finset.mem_Ico.mp hl'
  exact above_add (above_sum (above_oP c h2 (by omega)) _) (above_sum (above_oX c h2 (by omega)) _)
theorem above_all (c : Dev nD) : Above 0 (owedAll c) := above_add (above_from c (by omega)) (above_sum (above_oB c) _)

theorem mayWait {b : ℕ} (c : Dev nD) (sm : SemLoc sig) {ι : ℕ} (hι : ι < 3) {O : CellTallies nD τ sig ℕ} (hb : lv ((c : Thread nD τ), sm) ι ≤ b) (hO : Above b O) :
    (levAts L lv : sProp 𝕄) ⊢ MayWait (c : Thread nD τ) sm ι O :=
  MayOwe.of_cut (L := L) (lev := lv) b
    (fun p hp => by rw [Finset.mem_singleton.mp hp, L_tc]; exact Finset.mem_range.mpr hι)
    (fun g u hg => (hO g u hg).1)
    (fun p hp => by rw [Finset.mem_singleton.mp hp]; exact hb)
    (fun g u hg => (hO g u hg).2)

end Cert.KernelIdeal.Mlp

end
-- ==== Proof.Ideal.Steps.lean ====
/-
  One rule per step of the loops, at a symbolic device, layer and offset, and the rule of a loop.
-/
module

public import proofs.«01_k».proof.Proof.Ideal.Sched

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

/-! ## Lists -/

theorem bigSepL_sep (os : List (Fin 32)) (Φ Ψ : Fin 32 → sProp 𝕄) :
    bigSepL os (fun o => iprop(Φ o ∗ Ψ o)) = iprop(bigSepL os Φ ∗ bigSepL os Ψ) := by
  induction os with
  | nil => rw [bigSepL_nil, bigSepL_nil, bigSepL_nil]; exact (BI.equiv_iff.mp BI.sep_emp).symm
  | cons o os ih =>
    rw [bigSepL_cons', bigSepL_cons', bigSepL_cons', ih]
    have h1 : iprop((Φ o ∗ Ψ o) ∗ bigSepL os Φ ∗ bigSepL os Ψ) ⊢ iprop((Φ o ∗ bigSepL os Φ) ∗ Ψ o ∗ bigSepL os Ψ) := by
      iintro ⟨⟨H1, H2⟩, H3, H4⟩
      isplitl [H1 H3]
      · isplitl [H1] <;> iassumption
      · isplitl [H2] <;> iassumption
    have h2 : iprop((Φ o ∗ bigSepL os Φ) ∗ Ψ o ∗ bigSepL os Ψ) ⊢ iprop((Φ o ∗ Ψ o) ∗ bigSepL os Φ ∗ bigSepL os Ψ) := by
      iintro ⟨⟨H1, H2⟩, H3, H4⟩
      isplitl [H1 H3]
      · isplitl [H1] <;> iassumption
      · isplitl [H2] <;> iassumption
    exact BI.equiv_iff.mp ⟨h1, h2⟩

theorem sumO_append (a b : List (Fin 32)) (f : Fin 32 → CellTallies nD τ sig ℕ) : sumO (a ++ b) f = sumO b f + sumO a f := by
  unfold sumO; rw [List.map_append, List.sum_append, add_comm]

theorem offs_ne : ∀ o ∈ offs, o ≠ 0 := by decide
theorem back (c : Dev nD) (o : Fin 32) : c + o + -o = c := by revert c o; decide +kernel
theorem neg_ne {o : Fin 32} : o ≠ 0 → -o ≠ 0 := by revert o; decide +kernel
theorem negneg (o : Fin 32) : - -o = o := by revert o; decide +kernel

/-- A device owes `O`, whatever it has waited for. -/
def owesE (c : Dev nD) (O : CellTallies nD τ sig ℕ) : sProp 𝕄 := iprop(∃ W, owes (c : Thread nD τ) O W)

/-- A loop over offsets, each step using up the first of what is left. -/
theorem wp_fold (C : sProp 𝕄) [BI.Persistent C] (c : Dev nD) {A B : Fin 32 → sProp 𝕄} {I : List (Fin 32) → sProp 𝕄} {op : Fin 32 → P F → P F} {Q : PUnit → sProp 𝕄}
    (os : List (Fin 32)) (h : ∀ o ∈ os, ∀ (os' : List (Fin 32)) (k : P F), iprop(C ∗ A o ∗ I (o :: os')) ⊢ iprop(((B o ∗ I os') -∗ WP c k Q) -∗ WP c (op o k) Q)) (k : P F) :
    iprop(C ∗ bigSepL os A ∗ I os) ⊢ iprop(((bigSepL os B ∗ I []) -∗ WP c k Q) -∗ WP c (os.foldr op k) Q) := by
  induction os with
  | nil =>
    rw [bigSepL_nil, bigSepL_nil]
    iintro ⟨-, H⟩ Hk
    iapply Hk; iexact H
  | cons o os ih =>
    rw [bigSepL_cons', bigSepL_cons', List.foldr_cons]
    iintro ⟨#HC, ⟨HA, HAs⟩, HI⟩ Hk
    iapply (h o List.mem_cons_self os (os.foldr op k)) $$ [HA HI]
    · isplitr; · iexact HC
      isplitl [HA] <;> iassumption
    iintro ⟨HB, HI⟩
    iapply (ih fun o' ho' => h o' (List.mem_cons_of_mem _ ho')) $$ [HAs HI]
    · isplitr; · iexact HC
      isplitl [HAs] <;> iassumption
    iintro ⟨HBs, HI⟩
    iapply Hk
    isplitl [HB HBs]
    · isplitl [HB] <;> iassumption
    iexact HI

/-! ## The records every device holds -/

section Ctx
variable (I : Inp F) (K : Dev nD × CI → ℕ)

abbrev kcell (p : Dev nD × CI) : GSem nD τ sig := ((p.1 : Thread nD τ), csem p.2)

/-- Every cell of every device, at its round 0, and the order of the waits. -/
def ctx : sProp 𝕄 :=
  iprop((bigSep Finset.univ fun p : Dev nD × CI => iprop(cellInv ER (rd I) (K p) (kcell p) ∗ reached ER (kcell p) 0)) ∗ levAts L lv)
instance ctx_persistent : BI.Persistent (ctx I K) := by unfold ctx; infer_instance

theorem ctx_cell (p : Dev nD × CI) : ctx I K ⊢ iprop(cellInv ER (rd I) (K p) (kcell p) ∗ reached ER (kcell p) 0) := by
  have h : (bigSep Finset.univ fun p : Dev nD × CI => iprop(cellInv ER (rd I) (K p) (kcell p) ∗ reached ER (kcell p) 0) : sProp 𝕄)
      ⊢ iprop(cellInv ER (rd I) (K p) (kcell p) ∗ reached ER (kcell p) 0) := bigSep_elim (Finset.mem_univ p)
  unfold ctx
  iintro ⟨H, -⟩
  iapply h; iexact H
theorem ctx_inv (p : Dev nD × CI) : ctx I K ⊢ cellInv ER (rd I) (K p) (kcell p) :=
  (ctx_cell I K p).trans (by iintro ⟨H, -⟩; iexact H)
theorem ctx_reached (p : Dev nD × CI) : ctx I K ⊢ reached ER (kcell p) 0 :=
  (ctx_cell I K p).trans (by iintro ⟨-, H⟩; iexact H)
theorem ctx_lev : ctx I K ⊢ levAts L lv := by unfold ctx; iintro ⟨-, H⟩; iexact H

abbrev iS (k : Fin 2) (o : Fin 32) : CI := some (false, k, o)
abbrev iR (k : Fin 2) (o : Fin 32) : CI := some (true, k, o)
theorem ctx_send (c : Dev nD) (k : Fin 2) (o : Fin 32) : ctx I K ⊢ cellInv ER (rd I) (K (c, iS k o)) (sendCell c k o) := ctx_inv I K (c, iS k o)
theorem ctx_recv (c : Dev nD) (k : Fin 2) (o : Fin 32) : ctx I K ⊢ cellInv ER (rd I) (K (c, iR k o)) (recvCell c k o) := ctx_inv I K (c, iR k o)
theorem ctx_bar (c : Dev nD) : ctx I K ⊢ cellInv ER (rd I) (K (c, none)) (barCell c) := ctx_inv I K (c, none)

end Ctx

/-! ## The steps -/

section Steps
variable (I : Inp F) (K : Dev nD × CI → ℕ) (c : Dev nD)

theorem credit_eq (M : Memref sig .tc .vmem S32x128x128 .bf16) (o : Fin 32) : (slotM M o).view.dmaCredit = N := rfl

/-- A signal to a neighbour's barrier, with the slot its activations will land in. -/
theorem wp_signal1 {Q : PUnit → sProp 𝕄} {o : Fin 32} (ho : o ≠ 0) (O : CellTallies nD τ sig ℕ) (k : P F) :
    iprop(ctx I K ∗ (slotAny (F := F) xgM c o ∗ dutyTok ER (barCell (c + o)) 0 (-o)) ∗ owesE c (O + oB c o))
      ⊢ iprop((owesE c O -∗ WP c k Q) -∗ WP c (.op (.semSignal (peer c o, .tc) barS (1#32).toInt) fun _ => k) Q) := by
  rw [peer_eq]
  unfold owesE
  iintro ⟨#HC, ⟨Hx, Ht⟩, ⟨%W, HO⟩⟩ Hk
  ihave #Hg := (ctx_bar I K (c + o)) $$ HC
  ihave #Hr := (ctx_reached I K (c + o, none)) $$ HC
  iapply (Rounds.wp_signal 𝒱₀ ER (rd I) (c : Thread nD τ) none (dst := ((c + o : Dev nD) : Thread nD τ)) (κ := K (c + o, none))
      (d := -o) (by rw [duties_bar]; exact Finset.mem_erase.mpr ⟨neg_ne ho, Finset.mem_univ _⟩) ((amount_bar I (c + o) (-o) 0).trans (by decide)) 0 O rfl)
    $$ [HO Ht Hx]
  · isplitr; · iexact Hg
    isplitl [HO]; · iexact HO
    isplitl [Ht]; · iexact Ht
    isplitl [Hx]; · rw [payload_bar, back, negneg]; iexact Hx
    iexact Hr
  iintro HO
  iapply Hk
  iexists W; iexact HO

/-- A wait for a transfer cell's round. -/
theorem wp_wait1 {Q : PUnit → sProp 𝕄} {sm : SemLoc sig} {κ l ι : ℕ} (hd : (rd I).duties ((c : Thread nD τ), sm) l = {0}) (he : (rd I).expect ((c : Thread nD τ), sm) l = N)
    {O : CellTallies nD τ sig ℕ} (hm : (levAts L lv : sProp 𝕄) ⊢ MayWait (c : Thread nD τ) sm ι O) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm N Kt) (k : P F) :
    iprop(cellInv ER (rd I) κ ((c : Thread nD τ), sm) ∗ levAts L lv ∗ cred (tallyAt ((c : Thread nD τ), sm) ι N) ∗ atPos ER ((c : Thread nD τ), sm) l ∅ 0 ∗ owesE c O)
      ⊢ iprop((((rd I).payload ((c : Thread nD τ), sm) l 0 ∗ atPos ER ((c : Thread nD τ), sm) (l + 1) ∅ 0 ∗ reached ER ((c : Thread nD τ), sm) (l + 1) ∗ owesE c O) -∗ WP c k Q)
        -∗ WP c (.op w fun _ => k) Q) := by
  unfold owesE
  iintro ⟨#Hg, #Hl, Hc, Ha, ⟨%W, HO⟩⟩ Hk
  iapply (Rounds.wp_wait_rest_token 𝒱₀ ER (rd I) (c : Thread nD τ) none (κ := κ) (k' := N)
      hw (Set.mem_univ _) ι (O := O) (W := W) (R := l) (m := 0) (T := ∅) (by rw [Nat.zero_add, he])) $$ [Hc HO Ha]
  · isplitr; · iexact Hg
    isplitl [Hc]; · iexact Hc
    isplitl [HO]; · iexact HO
    isplitr; · iapply hm; iexact Hl
    iexact Ha
  iintro ⟨HO, Ha, Hr, Hp⟩
  ihave Hp := (Entails.of_eq (rest_of I l hd)) $$ Hp
  iapply Hk
  isplitl [Hp]; · iexact Hp
  isplitl [Ha]; · iexact Ha
  isplitl [Hr]; · iexact Hr
  iexists _; iexact HO

/-- A copy to a neighbour, in general. -/
theorem wp_copy1 {Q : PUnit → sProp 𝕄} {src dst : Memref sig .tc .vmem S128x128 .bf16} {kk : Fin 2} {l : ℕ} (hl : l < 3) {o : Fin 32} (ho : o ≠ 0) (n : Dev nD) (hn : n = c + o)
    {hsc : (dst : Memref sig (Dev.tc n : Thread nD τ).2.kind .vmem S128x128 .bf16).view.ref.isScScratch = false}
    {hsrc : src.view.WordExact} {hdst : (dst : Memref sig (Dev.tc n : Thread nD τ).2.kind .vmem S128x128 .bf16).view.WordExact}
    {hsem : DmaTarget.Typed .vmem (.dma (recvAt kk (-o))) (.remote (Dev.tc n : Thread nD τ) dst (.dma (sendAt kk o)) hsc)}
    (hN : dst.view.dmaCredit = N)
    {q : PosShare TreeShare} (v : Vec F S128x128 .bf16) (fd : Vec F S128x128 .bf16) {Fr : sProp 𝕄} (O : CellTallies nD τ sig ℕ)
    (hp1 : (src.view.loc (c : Thread nD τ) ↦[src.view.set]{q} src.view.rep v : sProp 𝕄) ⊢ (rd I).payload (sendCell c kk o) l 0)
    (hp2 : iprop((dst.view.loc ((c + o : Dev nD) : Thread nD τ) ↦[dst.view.set]{fullShare} dst.view.rep v) ∗ Fr) ⊢ (rd I).payload (recvCell (c + o) kk (-o)) l 0)
    (k : P F) :
    iprop(ctx I K ∗ (src.view.loc (c : Thread nD τ) ↦[src.view.set]{q} src.view.rep v)
        ∗ (dst.view.loc ((c + o : Dev nD) : Thread nD τ) ↦[dst.view.set]{fullShare} dst.view.rep fd) ∗ Fr
        ∗ dutyTok ER (sendCell c kk o) l 0 ∗ reached ER (sendCell c kk o) l
        ∗ dutyTok ER (recvCell (c + o) kk (-o)) l 0 ∗ reached ER (recvCell (c + o) kk (-o)) l
        ∗ owesE c (O + tallyAt (recvCell (c + o) kk (-o)) l N))
      ⊢ iprop(((cred (tallyAt (sendCell c kk o) 0 N) ∗ owesE c O) -∗ WP c k Q)
        -∗ WP c (.op (.enqueueDma src (.remote (Dev.tc n) dst (.dma (sendAt kk o)) hsc) (.dma (recvAt kk (-o))) hsrc hdst hsem) fun _ => k) Q) := by
  subst hn
  have hp2' : iprop((dst.view.loc ((c + o : Dev nD) : Thread nD τ) ↦[dst.view.set]{fullShare} (dst.view.write (Elt F) (dst.view.rep fd) (src.view.read (Elt F) (src.view.rep v)) Finset.univ)) ∗ Fr)
      ⊢ (rd I).payload (recvCell (c + o) kk (-o)) l 0 := by
    refine (sep_mono_left (Entails.of_eq ?_)).trans hp2
    rw [pointsTo_rep, View.read_write_univ, View.read_rep]
  have hd1 : (0 : Fin 32) ∈ (rd I).duties (sendCell c kk o) l := by rw [duties_send I c kk o l hl ho]; exact Finset.mem_singleton_self _
  have hd2 : (0 : Fin 32) ∈ (rd I).duties (recvCell (c + o) kk (-o)) l := by rw [duties_recv I (c + o) kk (-o) l hl (neg_ne ho)]; exact Finset.mem_singleton_self _
  have hs := fun W : Waits sig ℕ => Rounds.wp_send_pointsTo_with (defs := defs₀ (F := F)) 𝒱₀ ER (rd I) (c : Thread nD τ) none (Γ := .empty) (Q := Q) (k := fun _ => k)
    (c' := ((c + o : Dev nD) : Thread nD τ)) (src := src) (dst := dst) (hsc := hsc) (sS := .dma (sendAt kk o)) (sem := .dma (recvAt kk (-o)))
    (hsrc := hsrc) (hdst := hdst) (hsem := hsem)
    (κ₁ := K (c, iS kk o)) (κ₂ := K (c + o, iR kk (-o))) (q := q) (fs := src.view.rep v) (fd := dst.view.rep fd) (F := Fr) (r₁ := l) (r₂ := l) (d₁ := 0) (d₂ := 0)
    hd1 hd2 l 0 N hN (amount_send I c kk o 0 l) (amount_recv I (c + o) kk (-o) 0 l) (O₀ := O + tallyAt (recvCell (c + o) kk (-o)) l N) O rfl (W := W) hp1 hp2' (Es := Set.univ) (Topo.routes_tc _ _)
  unfold owesE
  iintro ⟨#HC, Hs, Hd, HF, Ht, #Hr, Ht', #Hr', ⟨%W, HO⟩⟩ Hk
  ihave #Hg := (ctx_send I K c kk o) $$ HC
  ihave #Hg' := (ctx_recv I K (c + o) kk (-o)) $$ HC
  iapply (hs W) $$ [Hs Hd HF HO Ht Ht']
  · isplitr; · iexact Hg
    isplitr; · iexact Hg'
    isplitl [Hs]; · iexact Hs
    isplitl [Hd HF]
    · isplitl [Hd] <;> iassumption
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Steps

end Cert.KernelIdeal.Mlp

end
-- ==== Proof.Ideal.Passes.lean ====
/-
  The loops of a layer: what a device holds for each offset before and after.
-/
module

public import proofs.«01_k».proof.Proof.Ideal.Steps

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

/-! ## What a device holds for one offset, between the loops -/

section States
variable (I : Inp F) (c : Dev nD) (l : ℕ) (o : Fin 32)

/-- The right to send activations in layer `l`: the slot they land in. After the last layer: this device's own slot. -/
def permit : sProp 𝕄 := if l < 3 then iprop(slotAny (F := F) xgM (c + o) (-o) ∗ reached ER (recvCell (c + o) 0 (-o)) l) else slotAny xgM c o
/-- What the last layer's scatter does not give away. -/
def keepX : sProp 𝕄 := if l < 2 then iprop(emp) else slotAny (F := F) xgM c o

theorem permit_step (hl : l < 3) : iprop(keepX (F := F) c l o ∗ giveX (F := F) c l o) ⊢ permit (F := F) c (l + 1) o := by
  unfold keepX giveX permit
  by_cases h : l < 2
  · rw [if_pos h, if_pos h, if_pos (by omega)]; iintro ⟨-, H⟩; iexact H
  · rw [if_neg h, if_neg h, if_neg (by omega)]; iintro ⟨H, -⟩; iexact H

abbrev atR (g : GSem nD τ sig) (r : ℕ) : sProp 𝕄 := atPos ER g r ∅ 0

/-- The tokens layer `l` spends on the neighbour at offset `o`. -/
def toks : sProp 𝕄 :=
  iprop(dutyTok ER (sendCell c 0 o) l 0 ∗ dutyTok ER (recvCell (c + o) 0 (-o)) l 0 ∗ cred (tallyAt (recvCell c 0 o) l N)
    ∗ dutyTok ER (sendCell c 1 o) l 0 ∗ dutyTok ER (recvCell (c + o) 1 (-o)) l 0 ∗ cred (tallyAt (recvCell c 1 o) l N))
/-- Between layers, but for the slot of the parts received. -/
def rest0 : sProp 𝕄 :=
  iprop(permit (F := F) c l o ∗ slotAny (F := F) psM c o ∗ (atR (F := F) (recvCell c 0 o) l ∗ atR (F := F) (recvCell c 1 o) l ∗ atR (F := F) (sendCell c 0 o) l ∗ atR (F := F) (sendCell c 1 o) l)
    ∗ reached ER (recvCell c 1 o) l ∗ reached ER (sendCell c 0 o) l ∗ reached ER (sendCell c 1 o) l)
/-- With the activations sent. -/
def held1 : sProp 𝕄 :=
  iprop(cred (tallyAt (sendCell c 0 o) 0 N) ∗ slotAny (F := F) psM c o ∗ (atR (F := F) (recvCell c 0 o) l ∗ atR (F := F) (recvCell c 1 o) l ∗ atR (F := F) (sendCell c 0 o) l ∗ atR (F := F) (sendCell c 1 o) l)
    ∗ reached ER (sendCell c 1 o) l
    ∗ cred (tallyAt (recvCell c 0 o) l N) ∗ dutyTok ER (sendCell c 1 o) l 0 ∗ dutyTok ER (recvCell (c + o) 1 (-o)) l 0 ∗ cred (tallyAt (recvCell c 1 o) l N))
/-- With the neighbour's activations received. -/
def held2 : sProp 𝕄 :=
  iprop(cred (tallyAt (sendCell c 0 o) 0 N) ∗ (atR (F := F) (recvCell c 0 o) (l + 1) ∗ atR (F := F) (recvCell c 1 o) l ∗ atR (F := F) (sendCell c 0 o) l ∗ atR (F := F) (sendCell c 1 o) l)
    ∗ reached ER (sendCell c 1 o) l ∗ reached ER (recvCell c 0 o) (l + 1) ∗ slotAny (F := F) pgM (c + o) (-o) ∗ reached ER (recvCell (c + o) 1 (-o)) l
    ∗ dutyTok ER (sendCell c 1 o) l 0 ∗ dutyTok ER (recvCell (c + o) 1 (-o)) l 0 ∗ cred (tallyAt (recvCell c 1 o) l N))
/-- With the part sent. -/
def held3 : sProp 𝕄 :=
  iprop(cred (tallyAt (sendCell c 0 o) 0 N) ∗ cred (tallyAt (sendCell c 1 o) 0 N) ∗ (atR (F := F) (recvCell c 0 o) (l + 1) ∗ atR (F := F) (recvCell c 1 o) l ∗ atR (F := F) (sendCell c 0 o) l ∗ atR (F := F) (sendCell c 1 o) l)
    ∗ keepX (F := F) c l o ∗ cred (tallyAt (recvCell c 1 o) l N))
/-- With the neighbour's part received. -/
def held4 : sProp 𝕄 :=
  iprop(cred (tallyAt (sendCell c 0 o) 0 N) ∗ cred (tallyAt (sendCell c 1 o) 0 N) ∗ (atR (F := F) (recvCell c 0 o) (l + 1) ∗ atR (F := F) (recvCell c 1 o) (l + 1) ∗ atR (F := F) (sendCell c 0 o) l ∗ atR (F := F) (sendCell c 1 o) l)
    ∗ permit (F := F) c (l + 1) o ∗ reached ER (recvCell c 1 o) (l + 1))

end States

/-! ## The loops -/

section Loops
variable (I : Inp F) (K : Dev nD × CI → ℕ) (c : Dev nD)

/-- The wait of a copy into a slot. -/
theorem wp_waitSlot {Q : PUnit → sProp 𝕄} {sm : DmaSem sig} {src : Memref sig .tc .vmem S128x128 .bf16} (M : Memref sig .tc .vmem S32x128x128 .bf16) (o : Fin 32)
    {hs : src.view.WordExact} {ht : (slotM M o).view.WordExact} {κ l ι : ℕ} (hd : (rd I).duties ((c : Thread nD τ), .dma sm) l = {0}) (he : (rd I).expect ((c : Thread nD τ), .dma sm) l = N)
    {O : CellTallies nD τ sig ℕ} (hm : (levAts L lv : sProp 𝕄) ⊢ MayWait (c : Thread nD τ) (.dma sm) ι O) (k : P F) :
    iprop(cellInv ER (rd I) κ ((c : Thread nD τ), .dma sm) ∗ levAts L lv ∗ cred (tallyAt ((c : Thread nD τ), .dma sm) ι N) ∗ atPos ER ((c : Thread nD τ), .dma sm) l ∅ 0 ∗ owesE c O)
      ⊢ iprop((((rd I).payload ((c : Thread nD τ), .dma sm) l 0 ∗ atPos ER ((c : Thread nD τ), .dma sm) (l + 1) ∅ 0 ∗ reached ER ((c : Thread nD τ), .dma sm) (l + 1) ∗ owesE c O) -∗ WP c k Q)
        -∗ WP c (.op (.waitDma2 sm src (slotM M o) hs ht) fun _ => k) Q) :=
  wp_wait1 I c (w := .waitDma2 sm src (slotM M o) hs ht) hd he hm (fun Kt => wpE_waitDma2_eq (defs := defs₀ (F := F)) 𝒱₀ (c : Thread nD τ) none Set.univ (dst := slotM M o) Kt) k

theorem signals_loop {Q : PUnit → sProp 𝕄} (os : List (Fin 32)) (hos : ∀ o ∈ os, o ≠ 0) (O : CellTallies nD τ sig ℕ) (k : P F) :
    iprop(ctx I K ∗ bigSepL os (fun o => iprop(slotAny (F := F) xgM c o ∗ dutyTok ER (barCell (c + o)) 0 (-o))) ∗ owesE c (O + sumO os (oB c)))
      ⊢ iprop(((bigSepL os (fun _ => iprop(emp)) ∗ owesE c O) -∗ WP c k Q) -∗ WP c (signals c os k) Q) := by
  have h := wp_fold (F := F) (ctx I K) c (A := fun o => iprop(slotAny (F := F) xgM c o ∗ dutyTok ER (barCell (c + o)) 0 (-o))) (B := fun _ => iprop(emp))
    (I := fun os => owesE c (O + sumO os (oB c))) (op := fun o k => .op (.semSignal (peer c o, .tc) barS (1#32).toInt) fun _ => k) (Q := Q) os (fun o ho os' k => by
      rw [sumO_cons, ← add_assoc]
      iintro H Hk
      iapply (wp_signal1 I K c (hos o ho) _ k) $$ H
      iintro HO
      iapply Hk
      isplitr; · iempintro
      iexact HO) k
  rw [sumO_nil, add_zero] at h
  exact h

theorem gather_loop {Q : PUnit → sProp 𝕄} {l : ℕ} (hl : l < 3) (os : List (Fin 32)) (hos : ∀ o ∈ os, o ≠ 0) (O : CellTallies nD τ sig ℕ) (k : P F) :
    iprop(ctx I K ∗ bigSepL os (fun o => iprop(slotPts xgM c (cut o) 0 (act I l c) ∗ (slotAny (F := F) pgM c o ∗ rest0 (F := F) c l o) ∗ toks (F := F) c l o)) ∗ owesE c (O + sumO os (oX c l)))
      ⊢ iprop(((bigSepL os (held1 (F := F) c l) ∗ owesE c O) -∗ WP c k Q) -∗ WP c (gather c os k) Q) := by
  have h := wp_fold (F := F) (ctx I K) c (A := fun o => iprop(slotPts xgM c (cut o) 0 (act I l c) ∗ (slotAny (F := F) pgM c o ∗ rest0 (F := F) c l o) ∗ toks (F := F) c l o))
    (B := held1 (F := F) c l) (I := fun os => owesE c (O + sumO os (oX c l)))
    (op := fun o k => .op (.enqueueDma (slotM xgM 0) (.remote (Dev.tc (peer c o)) (slotM xgM (-o)) (.dma (sendAt 0 o))) (.dma (recvAt 0 (-o)))
      (slot_words (Memref.isWhole_whole _) 0) (slot_words (Memref.isWhole_whole _) (-o)) ⟨⟨rfl, Or.inl rfl⟩, trivial⟩) fun _ => k) (Q := Q) os (fun o ho os' k => by
      rw [sumO_cons, ← add_assoc]
      unfold rest0 toks permit
      rw [if_pos hl]
      unfold slotAny slotPts
      iintro ⟨#HC, ⟨Hx, ⟨Hg, ⟨⟨%fd, Hd⟩, Hr⟩, Hps, Hat, Hr1, Hrs0, Hrs1⟩, Ht0, Ht0', Hc0, Ht1, Ht1', Hc1⟩, HO⟩ Hk
      iapply (wp_copy1 I K c (src := slotM xgM 0) (dst := slotM xgM (-o)) (kk := 0) hl (hos o ho) (peer c o) (peer_eq c o) (credit_eq xgM (-o)) (q := cut o) (act I l c) fd
        (Fr := iprop(slotAny (F := F) pgM c o ∗ reached ER (recvCell c 1 o) l)) (O + sumO os' (oX c l))
        (by rw [payload_send0]; exact Entails.of_eq rfl)
        (by rw [payload_recv0]; unfold gatherPay; rw [back, negneg]; exact Entails.of_eq rfl) k) $$ [Hx Hg Hd Hr Hr1 Ht0 Ht0' Hrs0 HO]
      · isplitr; · iexact HC
        isplitl [Hx]; · iexact Hx
        isplitl [Hd]; · iexact Hd
        isplitl [Hg Hr1]
        · isplitl [Hg]; · unfold slotAny slotPts; iexact Hg
          iexact Hr1
        isplitl [Ht0]; · iexact Ht0
        isplitl [Hrs0]; · iexact Hrs0
        isplitl [Ht0']; · iexact Ht0'
        isplitl [Hr]; · iexact Hr
        iexact HO
      iintro ⟨Hcs, HO⟩
      iapply Hk
      isplitl [Hcs Hps Hat Hrs1 Hc0 Ht1 Ht1' Hc1]
      · unfold held1
        isplitl [Hcs]; · iexact Hcs
        isplitl [Hps]; · unfold slotAny slotPts; iexact Hps
        isplitl [Hat]; · iexact Hat
        isplitl [Hrs1]; · iexact Hrs1
        isplitl [Hc0]; · iexact Hc0
        isplitl [Ht1]; · iexact Ht1
        isplitl [Ht1']; · iexact Ht1'
        iexact Hc1
      iexact HO) k
  rw [sumO_nil, add_zero] at h
  exact h

theorem gatherWaits_loop {Q : PUnit → sProp 𝕄} {l : ℕ} (hl : l < 3) (os : List (Fin 32)) (hos : ∀ o ∈ os, o ≠ 0) {O : CellTallies nD τ sig ℕ} (hO : Above (2 * l + 2) O) (k : P F) :
    iprop(ctx I K ∗ bigSepL os (held1 (F := F) c l) ∗ owesE c O)
      ⊢ iprop(((bigSepL os (fun o => iprop(slotPts xgM c fullShare o (act I l (c + o)) ∗ slotAny (F := F) psM c o ∗ held2 (F := F) c l o)) ∗ owesE c O) -∗ WP c k Q)
        -∗ WP c (gatherWaits os k) Q) :=
  wp_fold (F := F) (ctx I K) c (A := held1 (F := F) c l) (B := fun o => iprop(slotPts xgM c fullShare o (act I l (c + o)) ∗ slotAny (F := F) psM c o ∗ held2 (F := F) c l o))
    (I := fun _ => owesE c O) (op := fun o k => .op (.waitDma2 (recvAt 0 o) (slotM xgM 0) (slotM xgM o)
      (slot_words (Memref.isWhole_whole _) 0) (slot_words (Memref.isWhole_whole _) o)) fun _ => k) (Q := Q) os (fun o ho os' k => by
      unfold held1
      iintro ⟨#HC, ⟨Hcs, Hps, ⟨Ha, Ha1, Hb0, Hb1⟩, Hrs1, Hc0, Ht1, Ht1', Hc1⟩, HO⟩ Hk
      ihave #Hg := (ctx_recv I K c 0 o) $$ HC
      ihave #Hlev := (ctx_lev I K) $$ HC
      iapply (wp_waitSlot I c (sm := recvAt 0 o) (src := slotM xgM 0) xgM o (ι := l) (duties_recv I c 0 o l hl (hos o ho)) (expect_recv I c 0 o l hl (hos o ho))
        (mayWait c _ hl (b := 2 * l + 2) (by rw [lv_recv]; exact le_rfl) hO) k) $$ [Hc0 Ha HO]
      · isplitr; · iexact Hg
        isplitr; · iexact Hlev
        isplitl [Hc0]; · iexact Hc0
        isplitl [Ha]; · iexact Ha
        iexact HO
      rw [payload_recv0]
      unfold gatherPay
      iintro ⟨⟨Hx, Hpg, Hr⟩, Ha, Hra, HO⟩
      iapply Hk
      isplitr [HO]
      · isplitl [Hx]; · iexact Hx
        isplitl [Hps]; · iexact Hps
        unfold held2
        isplitl [Hcs]; · iexact Hcs
        isplitl [Ha Ha1 Hb0 Hb1]
        · isplitl [Ha]; · iexact Ha
          isplitl [Ha1]; · iexact Ha1
          isplitl [Hb0] <;> iassumption
        isplitl [Hrs1]; · iexact Hrs1
        isplitl [Hra]; · iexact Hra
        isplitl [Hpg]; · iexact Hpg
        isplitl [Hr]; · iexact Hr
        isplitl [Ht1]; · iexact Ht1
        isplitl [Ht1']; · iexact Ht1'
        iexact Hc1
      iexact HO) k

theorem scatter_loop {Q : PUnit → sProp 𝕄} {l : ℕ} (hl : l < 3) (os : List (Fin 32)) (hos : ∀ o ∈ os, o ≠ 0) (O : CellTallies nD τ sig ℕ) (k : P F) :
    iprop(ctx I K ∗ bigSepL os (fun o => iprop(slotAny (F := F) xgM c o ∗ slotPts psM c fullShare o (part I l c o) ∗ held2 (F := F) c l o)) ∗ owesE c (O + sumO os (oP c l)))
      ⊢ iprop(((bigSepL os (held3 (F := F) c l) ∗ owesE c O) -∗ WP c k Q) -∗ WP c (scatter c os k) Q) := by
  have h := wp_fold (F := F) (ctx I K) c (A := fun o => iprop(slotAny (F := F) xgM c o ∗ slotPts psM c fullShare o (part I l c o) ∗ held2 (F := F) c l o))
    (B := held3 (F := F) c l) (I := fun os => owesE c (O + sumO os (oP c l)))
    (op := fun o k => .op (.enqueueDma (slotM psM o) (.remote (Dev.tc (peer c o)) (slotM pgM (-o)) (.dma (sendAt 1 o))) (.dma (recvAt 1 (-o)))
      (slot_words (Memref.isWhole_whole _) o) (slot_words (Memref.isWhole_whole _) (-o)) ⟨⟨rfl, Or.inl rfl⟩, trivial⟩) fun _ => k) (Q := Q) os (fun o ho os' k => by
      rw [sumO_cons, ← add_assoc]
      unfold held2
      have hx : iprop(slotAny (F := F) xgM c o ∗ reached ER (recvCell c 0 o) (l + 1)) ⊢ iprop(keepX (F := F) c l o ∗ giveX (F := F) (c + o) l (-o)) := by
        unfold keepX giveX
        rw [back, negneg]
        by_cases h2 : l < 2
        · rw [if_pos h2, if_pos h2]; iintro H; isplitr; · iempintro
          iexact H
        · rw [if_neg h2, if_neg h2]; iintro ⟨H, -⟩; isplitl [H]; · iexact H
          iempintro
      iintro ⟨#HC, ⟨Hx, Hp, Hcs, Hat, Hrs1, Hra, Hpg, Hr, Ht1, Ht1', Hc1⟩, HO⟩ Hk
      unfold slotAny slotPts
      icases Hpg with ⟨%fd, Hpg⟩
      ihave Hx := hx $$ [Hx Hra]
      · isplitl [Hx]; · unfold slotAny slotPts; iexact Hx
        iexact Hra
      icases Hx with ⟨Hkeep, Hgive⟩
      iapply (wp_copy1 I K c (src := slotM psM o) (dst := slotM pgM (-o)) (kk := 1) hl (hos o ho) (peer c o) (peer_eq c o) (credit_eq pgM (-o)) (q := fullShare) (part I l c o) fd
        (Fr := giveX (F := F) (c + o) l (-o)) (O + sumO os' (oP c l))
        (by rw [payload_send1]; exact Entails.of_eq rfl)
        (by rw [payload_recv1]; unfold scatterPay; rw [back, negneg]; exact Entails.of_eq rfl) k) $$ [Hp Hpg Hgive Hr Ht1 Ht1' Hrs1 HO]
      · isplitr; · iexact HC
        isplitl [Hp]; · iexact Hp
        isplitl [Hpg]; · iexact Hpg
        isplitl [Hgive]; · iexact Hgive
        isplitl [Ht1]; · iexact Ht1
        isplitl [Hrs1]; · iexact Hrs1
        isplitl [Ht1']; · iexact Ht1'
        isplitl [Hr]; · iexact Hr
        iexact HO
      iintro ⟨Hcs1, HO⟩
      iapply Hk
      isplitr [HO]
      · unfold held3
        isplitl [Hcs]; · iexact Hcs
        isplitl [Hcs1]; · iexact Hcs1
        isplitl [Hat]; · iexact Hat
        isplitl [Hkeep]; · iexact Hkeep
        iexact Hc1
      iexact HO) k
  rw [sumO_nil, add_zero] at h
  exact h

theorem scatterWaits_loop {Q : PUnit → sProp 𝕄} {l : ℕ} (hl : l < 3) (os : List (Fin 32)) (hos : ∀ o ∈ os, o ≠ 0) {O : CellTallies nD τ sig ℕ} (hO : Above (2 * l + 3) O) (k : P F) :
    iprop(ctx I K ∗ bigSepL os (held3 (F := F) c l) ∗ owesE c O)
      ⊢ iprop(((bigSepL os (fun o => iprop(slotPts pgM c fullShare o (part I l (c + o) (-o)) ∗ held4 (F := F) c l o)) ∗ owesE c O) -∗ WP c k Q)
        -∗ WP c (scatterWaits os k) Q) :=
  wp_fold (F := F) (ctx I K) c (A := held3 (F := F) c l) (B := fun o => iprop(slotPts pgM c fullShare o (part I l (c + o) (-o)) ∗ held4 (F := F) c l o))
    (I := fun _ => owesE c O) (op := fun o k => .op (.waitDma2 (recvAt 1 o) (slotM psM 0) (slotM pgM o)
      (slot_words (Memref.isWhole_whole _) 0) (slot_words (Memref.isWhole_whole _) o)) fun _ => k) (Q := Q) os (fun o ho os' k => by
      unfold held3
      iintro ⟨#HC, ⟨Hcs, Hcs1, ⟨Ha, Ha1, Hb0, Hb1⟩, Hkeep, Hc1⟩, HO⟩ Hk
      ihave #Hg := (ctx_recv I K c 1 o) $$ HC
      ihave #Hlev := (ctx_lev I K) $$ HC
      iapply (wp_waitSlot I c (sm := recvAt 1 o) (src := slotM psM 0) pgM o (ι := l) (duties_recv I c 1 o l hl (hos o ho)) (expect_recv I c 1 o l hl (hos o ho))
        (mayWait c _ hl (b := 2 * l + 3) (by rw [lv_recv]; exact le_rfl) hO) k) $$ [Hc1 Ha1 HO]
      · isplitr; · iexact Hg
        isplitr; · iexact Hlev
        isplitl [Hc1]; · iexact Hc1
        isplitl [Ha1]; · iexact Ha1
        iexact HO
      rw [payload_recv1]
      unfold scatterPay
      iintro ⟨⟨Hp, Hgive⟩, Ha1, Hra, HO⟩
      iapply Hk
      isplitr [HO]
      · isplitl [Hp]; · iexact Hp
        unfold held4
        isplitl [Hcs]; · iexact Hcs
        isplitl [Hcs1]; · iexact Hcs1
        isplitl [Ha Ha1 Hb0 Hb1]
        · isplitl [Ha]; · iexact Ha
          isplitl [Ha1]; · iexact Ha1
          isplitl [Hb0] <;> iassumption
        isplitl [Hkeep Hgive]
        · iapply (permit_step c l o hl)
          isplitl [Hkeep] <;> iassumption
        iexact Hra
      iexact HO) k

theorem sendWaits_loop {Q : PUnit → sProp 𝕄} {l : ℕ} (hl : l < 3) (os : List (Fin 32)) (hos : ∀ o ∈ os, o ≠ 0) {O : CellTallies nD τ sig ℕ} (hO : Above 0 O) (k : P F) :
    iprop(ctx I K ∗ bigSepL os (held4 (F := F) c l) ∗ owesE c O)
      ⊢ iprop(((bigSepL os (fun o => iprop(slotPts xgM c (cut o) 0 (act I l c) ∗ rest0 (F := F) c (l + 1) o)) ∗ owesE c O) -∗ WP c k Q)
        -∗ WP c (sendWaits os k) Q) :=
  wp_fold (F := F) (ctx I K) c (A := held4 (F := F) c l) (B := fun o => iprop(slotPts xgM c (cut o) 0 (act I l c) ∗ rest0 (F := F) c (l + 1) o))
    (I := fun _ => owesE c O) (op := fun o k => .op (.waitDma2 (sendAt 0 o) (slotM xgM (-o)) (slotM xgM 0)
      (slot_words (Memref.isWhole_whole _) (-o)) (slot_words (Memref.isWhole_whole _) 0)) fun _ =>
    .op (.waitDma2 (sendAt 1 o) (slotM pgM (-o)) (slotM psM o)
      (slot_words (Memref.isWhole_whole _) (-o)) (slot_words (Memref.isWhole_whole _) o)) fun _ => k) (Q := Q) os (fun o ho os' k => by
      unfold held4
      iintro ⟨#HC, ⟨Hcs, Hcs1, ⟨Ha, Ha1, Hb0, Hb1⟩, Hperm, Hr1⟩, HO⟩ Hk
      ihave #Hg0 := (ctx_send I K c 0 o) $$ HC
      ihave #Hg1 := (ctx_send I K c 1 o) $$ HC
      ihave #Hlev := (ctx_lev I K) $$ HC
      iapply (wp_waitSlot I c (sm := sendAt 0 o) (src := slotM xgM (-o)) xgM 0 (ι := 0) (duties_send I c 0 o l hl (hos o ho)) (expect_send I c 0 o l hl (hos o ho))
        (mayWait c _ (by decide) (b := 0) (by rw [lv_send]) hO) _) $$ [Hcs Hb0 HO]
      · isplitr; · iexact Hg0
        isplitr; · iexact Hlev
        isplitl [Hcs]; · iexact Hcs
        isplitl [Hb0]; · iexact Hb0
        iexact HO
      rw [payload_send0]
      iintro ⟨Hx, Hb0, Hrb0, HO⟩
      iapply (wp_waitSlot I c (sm := sendAt 1 o) (src := slotM pgM (-o)) psM o (ι := 0) (duties_send I c 1 o l hl (hos o ho)) (expect_send I c 1 o l hl (hos o ho))
        (mayWait c _ (by decide) (b := 0) (by rw [lv_send]) hO) _) $$ [Hcs1 Hb1 HO]
      · isplitr; · iexact Hg1
        isplitr; · iexact Hlev
        isplitl [Hcs1]; · iexact Hcs1
        isplitl [Hb1]; · iexact Hb1
        iexact HO
      rw [payload_send1]
      iintro ⟨Hp, Hb1, Hrb1, HO⟩
      iapply Hk
      isplitr [HO]
      · isplitl [Hx]; · iexact Hx
        unfold rest0
        isplitl [Hperm]; · iexact Hperm
        isplitl [Hp]; · iapply (slotPts_any psM c o _); iexact Hp
        isplitl [Ha Ha1 Hb0 Hb1]
        · isplitl [Ha]; · iexact Ha
          isplitl [Ha1]; · iexact Ha1
          isplitl [Hb0] <;> iassumption
        isplitl [Hr1]; · iexact Hr1
        isplitl [Hrb0] <;> iassumption
      iexact HO) k

end Loops

end Cert.KernelIdeal.Mlp

end
-- ==== Proof.Ideal.Layer.lean ====
/-
  A layer: the activations sent, the products group by group, the parts exchanged and summed.
-/
module

public import proofs.«01_k».proof.Proof.Ideal.Passes

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

section Layer
variable (I : Inp F) (K : Dev nD × CI → ℕ) (c : Dev nD)

/-- A group: the run of gathered slots loaded, its products stored in the slots to send. -/
theorem wp_group {Q : PUnit → sProp 𝕄} {lo m : ℕ} {h : ∀ a, (![lo, 0, 0] : Fin 3 → Nat) a + (⟨3, ![m, 128, 128]⟩ : Shape).size a ≤ S32x128x128.size a}
    (hm : 0 < m) {hl : (xgM : Memref sig .tc .vmem S32x128x128 .bf16).view.LoadsAt (runR lo m h).toLoadRect} {hl' : (psM : Memref sig .tc .vmem S32x128x128 .bf16).view.LoadsAt (runR lo m h).toLoadRect}
    {hx : ((psM : Memref sig .tc .vmem S32x128x128 .bf16).access (runR lo m h)).Stores Finset.univ} {hu : Finset.univ = Finset.univ ∨ ∀ a, (runR lo m h).stride a = 1}
    (os : List (Fin 32)) (hn : os.Nodup) (ho : ∀ i : Fin m, (⟨lo + i.val, run_lt h i⟩ : Fin 32) ∈ os) (ho' : ∀ o ∈ os, lo ≤ o.val ∧ o.val < lo + m)
    (X : Fin 32 → Vec F S128x128 .bf16) (f : Vec F ⟨3, ![m, 128, 128]⟩ .bf16 → Vec F ⟨3, ![m, 128, 128]⟩ .bf16) (k : P F) :
    iprop((bigSepL os fun o => slotPts xgM c fullShare o (X o)) ∗ bigSepL os (slotAny (F := F) psM c))
      ⊢ iprop((((bigSepL os (slotAny (F := F) xgM c)) ∗ bigSepL os fun o => slotPts psM c fullShare o (unrun lo m (f (run lo m X)) hm o)) -∗ WP c k Q)
        -∗ WP c (.op (.load xgM (runR lo m h).toLoadRect hl) fun v => .op (.load psM (runR lo m h).toLoadRect hl') fun _ => .op (.store psM (runR lo m h) (f v) Finset.univ hx hu) fun _ => k) Q) := by
  iintro ⟨HX, HP⟩ Hk
  iapply (wp_load_run xgM c fullShare os hn ho X) $$ HX
  iintro HX
  iapply (wp_load_any psM c os hn ho) $$ HP
  iintro HP
  iapply (wp_store_run psM c hm os hn ho ho') $$ HP
  iintro HP
  iapply Hk
  isplitl [HX]
  · iapply (slots_to_any xgM c os X); iexact HX
  iexact HP

/-- A group from the waits for its activations to its parts sent. -/
theorem wp_chunk {Q : PUnit → sProp 𝕄} {l : ℕ} (hl3 : l < 3) {lo m : ℕ} {h : ∀ a, (![lo, 0, 0] : Fin 3 → Nat) a + (⟨3, ![m, 128, 128]⟩ : Shape).size a ≤ S32x128x128.size a}
    (hm : 0 < m) {hl : (xgM : Memref sig .tc .vmem S32x128x128 .bf16).view.LoadsAt (runR lo m h).toLoadRect} {hl' : (psM : Memref sig .tc .vmem S32x128x128 .bf16).view.LoadsAt (runR lo m h).toLoadRect}
    {hx : ((psM : Memref sig .tc .vmem S32x128x128 .bf16).access (runR lo m h)).Stores Finset.univ} {hu : Finset.univ = Finset.univ ∨ ∀ a, (runR lo m h).stride a = 1}
    (os : List (Fin 32)) (hos : ∀ o ∈ os, o ≠ 0) (hn : os.Nodup) (ho : ∀ i : Fin m, (⟨lo + i.val, run_lt h i⟩ : Fin 32) ∈ os) (ho' : ∀ o ∈ os, lo ≤ o.val ∧ o.val < lo + m)
    (f : Vec F ⟨3, ![m, 128, 128]⟩ .bf16 → Vec F ⟨3, ![m, 128, 128]⟩ .bf16)
    (hf : ∀ o ∈ os, unrun lo m (f (run lo m fun o' => act I l (c + o'))) hm o = part I l c o)
    {O : CellTallies nD τ sig ℕ} (hO : Above (2 * l + 2) O) (k : P F) :
    iprop(ctx I K ∗ bigSepL os (held1 (F := F) c l) ∗ owesE c (O + sumO os (oP c l)))
      ⊢ iprop(((bigSepL os (held3 (F := F) c l) ∗ owesE c O) -∗ WP c k Q)
        -∗ WP c (gatherWaits os <| .op (.load xgM (runR lo m h).toLoadRect hl) fun v => .op (.load psM (runR lo m h).toLoadRect hl') fun _ =>
          .op (.store psM (runR lo m h) (f v) Finset.univ hx hu) fun _ => scatter c os k) Q) := by
  iintro ⟨#HC, H, HO⟩ Hk
  iapply (gatherWaits_loop I K c hl3 os hos (above_add hO (above_sum (above_oP c hl3 (by omega)) os)) _) $$ [H HO]
  · isplitr; · iexact HC
    isplitl [H] <;> iassumption
  iintro ⟨H, HO⟩
  ihave H := (Entails.of_eq (bigSepL_sep (F := F) os _ _)) $$ H
  icases H with ⟨HX, H⟩
  ihave H := (Entails.of_eq (bigSepL_sep (F := F) os _ _)) $$ H
  icases H with ⟨HP, H⟩
  iapply (wp_group c hm os hn ho ho' (fun o' => act I l (c + o')) f _) $$ [HX HP]
  · isplitl [HX] <;> iassumption
  iintro ⟨HX, HP⟩
  ihave HP := (bigSepL_mono (Ψ := fun o => slotPts psM c fullShare o (part I l c o)) fun o ho => Entails.of_eq (congrArg (slotPts psM c fullShare o) (hf o ho))) $$ HP
  ihave H := (Entails.of_eq (bigSepL_sep (F := F) os _ _).symm) $$ [HP H]
  · isplitl [HP] <;> iassumption
  ihave H := (Entails.of_eq (bigSepL_sep (F := F) os _ _).symm) $$ [HX H]
  · isplitl [HX] <;> iassumption
  iapply (scatter_loop I K c hl3 os hos O k) $$ [H HO]
  · isplitr; · iexact HC
    isplitl [H] <;> iassumption
  iexact Hk

/-- Slot 0 of a buffer replaced. -/
theorem wp_put0 {Q : PUnit → sProp 𝕄} (M : Memref sig .tc .vmem S32x128x128 .bf16) (hM : M.IsWhole) (v : FVec F S1x128x128 .bf16) (k : P F) :
    (slotAny (F := F) M c 0 : sProp 𝕄) ⊢ iprop((slotPts M c fullShare 0 (unrun 0 1 v Nat.one_pos 0) -∗ WP c k Q) -∗ WP c (put0 M hM v k) Q) := by
  iintro H Hk
  ihave H := (Entails.of_eq (bigSepL_singleton (0 : Fin 32) (slotAny (F := F) M c)).symm) $$ H
  unfold put0
  iapply (wp_load_any M c (lo := 0) (m := 1) [0] (by decide) (by decide)) $$ H
  iintro H
  iapply (wp_store_run M c (lo := 0) (m := 1) Nat.one_pos [0] (by decide) (by decide) (by decide)) $$ H
  iintro H
  ihave H := (Entails.of_eq (bigSepL_singleton (0 : Fin 32) fun o => slotPts M c fullShare o (unrun 0 1 v Nat.one_pos o))) $$ H
  iapply Hk
  iexact H

theorem offs_split : offs = offs0 ++ (offs1 ++ (offs2 ++ offs3)) := rfl
theorem all_offs (Φ : Fin 32 → sProp 𝕄) : bigSep Finset.univ Φ = iprop(Φ 0 ∗ bigSepL offs Φ) := by
  rw [bigSep_univ_eq_bigSepL (0 :: offs) (by decide) (by decide), bigSepL_cons']
theorem off0 (c : Dev nD) : c + (0 : Fin 32) = c := by revert c; decide
theorem neg0 : -(0 : Fin 32) = 0 := by decide

theorem part0 (l : ℕ) : unrun 0 1 (k0_pay5 (k0_pay3 (I.wi l c)) (k0_pay4 (I.wo l c)) (run 0 1 fun o => act I l (c + o))) Nat.one_pos 0 = part I l c 0 := rfl
theorem partA (l : ℕ) : ∀ o ∈ offs0, unrun 1 7 (k0_pay6 (k0_pay3 (I.wi l c)) (k0_pay4 (I.wo l c)) (run 1 7 fun o => act I l (c + o))) (by decide) o = part I l c o := fun o ho => by
  have h : o.val ≠ 0 ∧ o.val < 8 := by revert o; decide
  unfold part prods
  rw [if_neg h.1, if_pos h.2]
theorem partB (l : ℕ) : ∀ o ∈ offs1, unrun 8 8 (k0_pay9 (k0_pay3 (I.wi l c)) (k0_pay4 (I.wo l c)) (run 8 8 fun o => act I l (c + o))) (by decide) o = part I l c o := fun o ho => by
  have h : o.val ≠ 0 ∧ ¬ o.val < 8 ∧ o.val < 16 := by revert o; decide
  unfold part prods
  rw [if_neg h.1, if_neg h.2.1, if_pos h.2.2]
theorem partC (l : ℕ) : ∀ o ∈ offs2, unrun 16 8 (k0_pay9 (k0_pay3 (I.wi l c)) (k0_pay4 (I.wo l c)) (run 16 8 fun o => act I l (c + o))) (by decide) o = part I l c o := fun o ho => by
  have h : o.val ≠ 0 ∧ ¬ o.val < 8 ∧ ¬ o.val < 16 ∧ o.val < 24 := by revert o; decide
  unfold part prods
  rw [if_neg h.1, if_neg h.2.1, if_neg h.2.2.1, if_pos h.2.2.2]
theorem partD (l : ℕ) : ∀ o ∈ offs3, unrun 24 8 (k0_pay9 (k0_pay3 (I.wi l c)) (k0_pay4 (I.wo l c)) (run 24 8 fun o => act I l (c + o))) (by decide) o = part I l c o := fun o ho => by
  have h : o.val ≠ 0 ∧ ¬ o.val < 8 ∧ ¬ o.val < 16 ∧ ¬ o.val < 24 := by revert o; decide
  unfold part prods
  rw [if_neg h.1, if_neg h.2.1, if_neg h.2.2.1, if_neg h.2.2.2]

/-- Between layers, on the whole. -/
def between (l : ℕ) : sProp 𝕄 :=
  iprop(slotPts xgM c fullShare 0 (act I l c) ∗ slotAny (F := F) pgM c 0 ∗ bigSepL offs (fun o => iprop(slotAny (F := F) pgM c o ∗ rest0 (F := F) c l o)) ∗ owesE c (owedFrom c l))

theorem wp_layer {Q : PUnit → sProp 𝕄} {l : ℕ} (hl : l < 3) {wiM : Memref sig .tc .vmem S128x256 .bf16} {woM : Memref sig .tc .vmem S256x128 .bf16}
    {fi : Buf (Elt F) (wiM.view.loc (c : Thread nD τ))} {fo : Buf (Elt F) (woM.view.loc (c : Thread nD τ))}
    (hfi : wiM.view.readAt (Elt F) rIn.toLoadRect fi = I.wi l c) (hfo : woM.view.readAt (Elt F) rOut.toLoadRect fo = I.wo l c) (k : FVec F S128x128 .f32 → P F) :
    iprop(ctx I K ∗ ((wiM.view.loc (c : Thread nD τ) ↦{fullShare} fi) ∗ (woM.view.loc (c : Thread nD τ) ↦{fullShare} fo)) ∗ between I c l ∗ bigSepL offs (toks (F := F) c l))
      ⊢ iprop(((((wiM.view.loc (c : Thread nD τ) ↦{fullShare} fi) ∗ (woM.view.loc (c : Thread nD τ) ↦{fullShare} fo)) ∗ between I c (l + 1)) -∗ WP c (k (res I l c)) Q)
        -∗ WP c (layer c wiM woM k) Q) := by
  unfold between
  iintro ⟨#HC, ⟨HWi, HWo⟩, ⟨HX0, HG0, HS, HO⟩, HT⟩ Hk
  unfold layer
  iapply (wp_load 𝒱₀ (c : Thread nD τ) none Set.univ (Finset.subset_univ _)) $$ HWi
  iintro HWi
  rw [hfi]
  iapply (wp_load 𝒱₀ (c : Thread nD τ) none Set.univ (Finset.subset_univ _)) $$ HWo
  iintro HWo
  rw [hfo]
  -- the activations sent
  ihave HX0 := (Entails.of_eq ((slotPts_cut xgM c 0 (act I l c)).trans (all_offs _))) $$ HX0
  icases HX0 with ⟨HX0, HXs⟩
  ihave H := (Entails.of_eq (bigSepL_sep (F := F) offs _ _).symm) $$ [HS HT]
  · isplitl [HS] <;> iassumption
  ihave H := (Entails.of_eq (bigSepL_sep (F := F) offs _ _).symm) $$ [HXs H]
  · isplitl [HXs] <;> iassumption
  ihave HO := (Entails.of_eq (congrArg (owesE (F := F) c) (owedFrom_step c hl))) $$ HO
  iapply (gather_loop I K c hl offs offs_ne _ _) $$ [H HO]
  · isplitr; · iexact HC
    isplitl [H] <;> iassumption
  iintro ⟨H, HO⟩
  -- slot 0
  ihave HX0 := (Entails.of_eq (show (slotPts xgM c (cut 0) 0 (act I l c) : sProp 𝕄) = bigSepL [0] fun o => slotPts xgM c (cut 0) o (act I l (c + o)) by
    rw [bigSepL_singleton, off0 c])) $$ HX0
  iapply (wp_load_run xgM c (lo := 0) (m := 1) (cut 0) [0] (by decide) (by decide) (fun o => act I l (c + o))) $$ HX0
  iintro HX0
  ihave HX0 := (Entails.of_eq (show (bigSepL [0] fun o => slotPts xgM c (cut 0) o (act I l (c + o)) : sProp 𝕄) = slotPts xgM c (cut 0) 0 (act I l c) by
    rw [bigSepL_singleton, off0 c])) $$ HX0
  iapply (wp_put0 c pgM (Memref.isWhole_whole _) _ _) $$ HG0
  rw [part0 I c l]
  iintro HG0
  -- the groups
  ihave H := (Entails.of_eq (show (bigSepL offs (held1 (F := F) c l) : sProp 𝕄) = iprop(bigSepL offs0 (held1 (F := F) c l) ∗ bigSepL offs1 (held1 (F := F) c l) ∗ bigSepL offs2 (held1 (F := F) c l) ∗ bigSepL offs3 (held1 (F := F) c l)) by
    rw [offs_split, bigSepL_append, bigSepL_append, bigSepL_append])) $$ H
  icases H with ⟨H0, H1, H2, H3⟩
  ihave HO := (Entails.of_eq (congrArg (owesE (F := F) c) (show owedFrom c (l + 1) + sumO offs (oP c l) = owedFrom c (l + 1) + sumO offs3 (oP c l) + sumO offs2 (oP c l) + sumO offs1 (oP c l) + sumO offs0 (oP c l) by
    rw [offs_split, sumO_append, sumO_append, sumO_append, add_assoc, add_assoc, add_assoc, add_assoc, add_assoc]))) $$ HO
  have hF : Above (2 * l + 2) (owedFrom c (l + 1)) := above_from c (by omega)
  have hF3 : Above (2 * l + 3) (owedFrom c (l + 1)) := above_from c (by omega)
  have hF0 : Above 0 (owedFrom c (l + 1)) := above_from c (by omega)
  have hP : ∀ os, Above (2 * l + 2) (sumO os (oP c l)) := above_sum (above_oP c hl (by omega))
  iapply (wp_chunk I K c hl (lo := 1) (m := 7) (by decide) offs0 (by decide) (by decide) (by decide) (by decide) _ (partA I c l) (above_add (above_add (above_add hF (hP _)) (hP _)) (hP _)) _) $$ [H0 HO]
  · isplitr; · iexact HC
    isplitl [H0] <;> iassumption
  iintro ⟨H0, HO⟩
  iapply (wp_chunk I K c hl (lo := 8) (m := 8) (by decide) offs1 (by decide) (by decide) (by decide) (by decide) _ (partB I c l) (above_add (above_add hF (hP _)) (hP _)) _) $$ [H1 HO]
  · isplitr; · iexact HC
    isplitl [H1] <;> iassumption
  iintro ⟨H1, HO⟩
  iapply (wp_chunk I K c hl (lo := 16) (m := 8) (by decide) offs2 (by decide) (by decide) (by decide) (by decide) _ (partC I c l) (above_add hF (hP _)) _) $$ [H2 HO]
  · isplitr; · iexact HC
    isplitl [H2] <;> iassumption
  iintro ⟨H2, HO⟩
  iapply (wp_chunk I K c hl (lo := 24) (m := 8) (by decide) offs3 (by decide) (by decide) (by decide) (by decide) _ (partD I c l) hF _) $$ [H3 HO]
  · isplitr; · iexact HC
    isplitl [H3] <;> iassumption
  iintro ⟨H3, HO⟩
  ihave H := (Entails.of_eq (show (iprop(bigSepL offs0 (held3 (F := F) c l) ∗ bigSepL offs1 (held3 (F := F) c l) ∗ bigSepL offs2 (held3 (F := F) c l) ∗ bigSepL offs3 (held3 (F := F) c l)) : sProp 𝕄) = bigSepL offs (held3 (F := F) c l) by
    rw [offs_split, bigSepL_append, bigSepL_append, bigSepL_append])) $$ [H0 H1 H2 H3]
  · isplitl [H0]; · iexact H0
    isplitl [H1]; · iexact H1
    isplitl [H2] <;> iassumption
  -- the parts received, and their sum
  iapply (scatterWaits_loop I K c hl offs offs_ne hF3 _) $$ [H HO]
  · isplitr; · iexact HC
    isplitl [H] <;> iassumption
  iintro ⟨H, HO⟩
  ihave H := (Entails.of_eq (bigSepL_sep (F := F) offs _ _)) $$ H
  icases H with ⟨HG, H⟩
  ihave HG := (Entails.of_eq (show (iprop(slotPts pgM c fullShare 0 (part I l c 0) ∗ bigSepL offs fun o => slotPts pgM c fullShare o (part I l (c + o) (-o))) : sProp 𝕄)
      = bigSepL (0 :: offs) fun o => slotPts pgM c fullShare o (part I l (c + o) (-o)) by
    rw [bigSepL_cons' (0 : Fin 32) offs, off0 c, neg0])) $$ [HG0 HG]
  · isplitl [HG0] <;> iassumption
  iapply (wp_load_run pgM c (lo := 0) (m := 32) fullShare (0 :: offs) (by decide) (by decide) (fun o => part I l (c + o) (-o))) $$ HG
  iintro HG
  ihave HG := (slots_to_any pgM c (0 :: offs) _) $$ HG
  ihave HG := (Entails.of_eq (bigSepL_cons' (0 : Fin 32) offs (slotAny (F := F) pgM c))) $$ HG
  icases HG with ⟨HG0, HG⟩
  -- the copies drained
  iapply (sendWaits_loop I K c hl offs offs_ne hF0 _) $$ [H HO]
  · isplitr; · iexact HC
    isplitl [H] <;> iassumption
  iintro ⟨H, HO⟩
  ihave H := (Entails.of_eq (bigSepL_sep (F := F) offs _ _)) $$ H
  icases H with ⟨HXs, H⟩
  ihave HX0 := (Entails.of_eq ((slotPts_cut xgM c 0 (act I l c)).trans (all_offs _)).symm) $$ [HX0 HXs]
  · isplitl [HX0] <;> iassumption
  ihave HX0 := (slotPts_any xgM c 0 _) $$ HX0
  iapply (wp_put0 c xgM (Memref.isWhole_whole _) _ _) $$ HX0
  iintro HX0
  iapply Hk
  isplitl [HWi HWo]
  · isplitl [HWi] <;> iassumption
  isplitl [HX0]; · iexact HX0
  isplitl [HG0]; · iexact HG0
  isplitl [HG H]
  · iapply (Entails.of_eq (bigSepL_sep (F := F) offs _ _).symm)
    isplitl [HG] <;> iassumption
  iexact HO

end Layer

end Cert.KernelIdeal.Mlp

end
-- ==== Proof.Ideal.Body.lean ====
/-
  The body from the handshake to the last cell closed.
-/
module

public import proofs.«01_k».proof.Proof.Ideal.Layer

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

/-! ## Cells and slots, by offset -/

theorem bigSepL_pers (C : sProp 𝕄) [BI.Persistent C] (os : List (Fin 32)) {A B : Fin 32 → sProp 𝕄} (h : ∀ o ∈ os, iprop(C ∗ A o) ⊢ B o) :
    iprop(C ∗ bigSepL os A) ⊢ bigSepL os B := by
  induction os with
  | nil => rw [bigSepL_nil, bigSepL_nil]; iintro ⟨-, H⟩; iexact H
  | cons o os ih =>
    rw [bigSepL_cons', bigSepL_cons']
    iintro ⟨#HC, HA, HAs⟩
    isplitl [HA]
    · iapply (h o List.mem_cons_self)
      isplitr; · iexact HC
      iexact HA
    · iapply (ih fun o' ho' => h o' (List.mem_cons_of_mem _ ho'))
      isplitr; · iexact HC
      iexact HAs

theorem bigSep_bool (Φ : Bool → sProp 𝕄) : bigSep Finset.univ Φ = iprop(Φ true ∗ Φ false) := bigSep_univ_eq_bigSepL [true, false] (by decide) (by decide) Φ
theorem bigSep_two (Φ : Fin 2 → sProp 𝕄) : bigSep Finset.univ Φ = iprop(Φ 0 ∗ Φ 1) := bigSep_univ_eq_bigSepL [0, 1] (by decide) (by decide) Φ

theorem own_eq (Φ : Bool × Fin 2 × Fin 32 → sProp 𝕄) :
    bigSep Finset.univ Φ = bigSepL (0 :: offs) fun o => iprop((Φ (true, 0, o) ∗ Φ (true, 1, o)) ∗ Φ (false, 0, o) ∗ Φ (false, 1, o)) := by
  rw [bigSep_univ_prod, bigSep_bool, bigSep_univ_prod, bigSep_univ_prod, bigSep_two, bigSep_two,
    bigSepL_sep (F := F) (0 :: offs), bigSepL_sep (F := F) (0 :: offs), bigSepL_sep (F := F) (0 :: offs)]
  simp only [bigSep_univ_eq_bigSepL (0 :: offs) (by decide) (by decide)]

section Whole
variable (M : Memref sig .tc .vmem S32x128x128 .bf16) (c : Dev nD) (hM : ∀ i, ∃ x, M.view.emb x = i)

include hM in
theorem slots_univ : (Finset.biUnion (β := Idx (M.view.loc (c : Thread nD τ))) (0 :: offs).toFinset fun o => (slotM M o).view.set) = Finset.univ := by
  refine Finset.eq_univ_iff_forall.mpr fun i => ?_
  obtain ⟨x, rfl⟩ := hM i
  obtain ⟨o, a, b, rfl⟩ := ex_ix3 x
  have ho : ∀ o : Fin 32, o ∈ (0 :: offs).toFinset := by decide
  rw [← slot_emb]
  exact Finset.mem_biUnion.mpr ⟨o, ho o, View.emb_mem_set _ _⟩

include hM in
theorem slots_whole (f : Buf (Elt F) (M.view.loc (c : Thread nD τ))) :
    (M.view.loc (c : Thread nD τ) ↦[(0 :: offs).toFinset.biUnion fun o => (slotM M o).view.set]{fullShare} f : sProp 𝕄) = (M.view.loc (c : Thread nD τ) ↦{fullShare} f) :=
  congrArg (fun S => (M.view.loc (c : Thread nD τ) ↦[S]{fullShare} f : sProp 𝕄)) (slots_univ M c hM)

include hM in
theorem slots_of_whole : (iprop(∃ f, M.view.loc (c : Thread nD τ) ↦{fullShare} f) : sProp 𝕄) ⊢ bigSepL (0 :: offs) (slotAny (F := F) M c) := by
  iintro ⟨%f, H⟩
  iapply (slots_to_any M c (0 :: offs) fun o => (slotM M o).view.read (Elt F) f)
  iapply (Entails.of_eq ((slots_merge M c fullShare (0 :: offs) (by decide) f).trans (slots_whole M c hM f)).symm)
  iexact H

include hM in
theorem whole_of_slots : bigSepL (0 :: offs) (slotAny (F := F) M c) ⊢ (iprop(∃ f, M.view.loc (c : Thread nD τ) ↦{fullShare} f) : sProp 𝕄) := by
  iintro H
  ihave H := (slots_any M c (0 :: offs) (by decide)) $$ H
  icases H with ⟨%X, H⟩
  ihave H := (Entails.of_eq ((slots_merge_glue M c fullShare (0 :: offs) (by decide) X).trans (slots_whole M c hM _))) $$ H
  iexists _; iexact H

end Whole

theorem xg_all (i) : ∃ x, (xgM : Memref sig .tc .vmem S32x128x128 .bf16).view.emb x = i := ⟨i, rfl⟩
theorem pg_all (i) : ∃ x, (pgM : Memref sig .tc .vmem S32x128x128 .bf16).view.emb x = i := ⟨i, rfl⟩
theorem ps_all (i) : ∃ x, (psM : Memref sig .tc .vmem S32x128x128 .bf16).view.emb x = i := ⟨i, rfl⟩

section Body
variable (I : Inp F) (K : Dev nD × CI → ℕ) (c : Dev nD)

/-- The positions of a device's four cells at offset `o`, in layer `l`. -/
def at4 (l : ℕ) (o : Fin 32) : sProp 𝕄 :=
  iprop((atR (F := F) (recvCell c 0 o) l ∗ atR (F := F) (recvCell c 1 o) l) ∗ atR (F := F) (sendCell c 0 o) l ∗ atR (F := F) (sendCell c 1 o) l)

/-- The three scratch buffers, at anything. -/
def scratch : sProp 𝕄 :=
  iprop((∃ f, (xgM : Memref sig .tc .vmem S32x128x128 .bf16).view.loc (c : Thread nD τ) ↦{fullShare} f)
    ∗ (∃ f, (pgM : Memref sig .tc .vmem S32x128x128 .bf16).view.loc (c : Thread nD τ) ↦{fullShare} f)
    ∗ (∃ f, (psM : Memref sig .tc .vmem S32x128x128 .bf16).view.loc (c : Thread nD τ) ↦{fullShare} f))

/-- What a device starts from: the records, its positions, the tokens it pays with, the credit of its waits. -/
def start : sProp 𝕄 :=
  iprop(ctx I K ∗ atR (F := F) (barCell c) 0 ∗ (bigSep Finset.univ fun i : Bool × Fin 2 × Fin 32 => atR (F := F) ((c : Thread nD τ), osem i) 0)
    ∗ (bigSepL offs fun o => dutyTok ER (barCell (c + o)) 0 (-o)) ∗ cred (tallyAt (barCell c) 0 31)
    ∗ bigSepL offs (toks (F := F) c 0) ∗ bigSepL offs (toks (F := F) c 1) ∗ bigSepL offs (toks (F := F) c 2))

/-- All of a device's cells closed. -/
def closed : sProp 𝕄 :=
  iprop((bigSep Finset.univ fun i : Bool × Fin 2 × Fin 32 => semVal ((c : Thread nD τ), osem i) 0) ∗ semVal (barCell c) 0)

theorem close_all : iprop(ctx I K ∗ atR (F := F) (barCell c) 1 ∗ at4 (F := F) c 0 0 ∗ bigSepL offs (at4 (F := F) c 3)) ⊢ |={Set.univ}=> closed (F := F) c := by
  have h1 (i : CI) : iprop(ctx I K ∗ atR (F := F) ((c : Thread nD τ), csem i) (fin i)) ⊢ |={Set.univ}=> (semVal ((c : Thread nD τ), csem i) 0 : sProp 𝕄) := by
    iintro ⟨#HC, H⟩
    ihave #Hg := (ctx_inv I K (c, i)) $$ HC
    iapply (Rounds.cell_close ER (rd I) (Set.mem_univ (K (c, i))) (fun h => h) (R := fin i) (duties_fin I c i))
    isplitr; · iexact Hg
    iexact H
  have h2 : iprop(ctx I K ∗ bigSep Finset.univ fun i : Bool × Fin 2 × Fin 32 => atR (F := F) ((c : Thread nD τ), osem i) (fin (some i)))
      ⊢ |={Set.univ}=> (bigSep Finset.univ fun i : Bool × Fin 2 × Fin 32 => semVal ((c : Thread nD τ), osem i) 0 : sProp 𝕄) :=
    (bigSep_with_persistent fun i _ => h1 (some i)).trans (bigSep_fupd _ _)
  have h3 : iprop(at4 (F := F) c 0 0 ∗ bigSepL offs (at4 (F := F) c 3)) ⊢ bigSep Finset.univ fun i : Bool × Fin 2 × Fin 32 => atR (F := F) ((c : Thread nD τ), osem i) (fin (some i)) := by
    rw [own_eq, bigSepL_cons' (0 : Fin 32) offs]
    iintro ⟨H0, H⟩
    isplitl [H0]; · unfold at4; iexact H0
    iapply (bigSepL_mono (Φ := at4 (F := F) c 3) fun o ho => Entails.of_eq (by
      have e : ∀ (b : Bool) (k : Fin 2), fin (some (b, k, o)) = 3 := fun b k => if_neg (offs_ne o ho)
      simp only [e]; rfl))
    iexact H
  unfold closed
  iintro ⟨#HC, Hb, H⟩
  ihave H := h3 $$ H
  imod h2 $$ [H] with H
  · isplitr; · iexact HC
    iexact H
  imod (h1 none) $$ [Hb] with Hb
  · isplitr; · iexact HC
    iexact Hb
  imodintro
  isplitl [H] <;> iassumption

/-- The barrier wait: every neighbour's slot for this device's activations. -/
theorem wp_bar {Q : PUnit → sProp 𝕄} (k : P F) :
    iprop(ctx I K ∗ atR (F := F) (barCell c) 0 ∗ cred (tallyAt (barCell c) 0 31) ∗ owesE c (owedFrom c 0))
      ⊢ iprop(((atR (F := F) (barCell c) 1 ∗ (bigSepL offs fun o => slotAny (F := F) xgM (c + o) (-o)) ∗ owesE c (owedFrom c 0)) -∗ WP c k Q)
        -∗ WP c (.op (.semWait barS (31#32).toInt) fun _ => k) Q) := by
  unfold owesE
  iintro ⟨#HC, Ha, Hc, ⟨%W, HO⟩⟩ Hk
  ihave #Hg := (ctx_bar I K c) $$ HC
  ihave #Hlev := (ctx_lev I K) $$ HC
  iapply (Rounds.wp_wait_rest_token 𝒱₀ ER (rd I) (c : Thread nD τ) none (κ := K (c, none))
      (wpE_semWait_eq 𝒱₀ (c : Thread nD τ) none Set.univ) (Set.mem_univ _) 0 (O := owedFrom c 0) (W := W) (R := 0) (m := 0) (T := ∅)
      (by rw [expect_bar]; decide)) $$ [Hc HO Ha]
  · isplitr; · iexact Hg
    isplitl [Hc]; · iexact Hc
    isplitl [HO]; · iexact HO
    isplitr; · iapply (mayWait c (.reg barS) (ι := 0) (by decide) (b := 1) (by rw [lv_bar]) (above_from c (by decide))); iexact Hlev
    iexact Ha
  iintro ⟨HO, Ha, -, Hp⟩
  ihave Hp := (Entails.of_eq (rest_bar I c)) $$ Hp
  iapply Hk
  isplitl [Ha]; · iexact Ha
  isplitl [Hp]; · iexact Hp
  iexists _; iexact HO

theorem wp_id {Q : PUnit → sProp 𝕄} (k : Dev nD → P F) : WP c (.op .deviceId k) Q = WP c (k c) Q := wp_deviceId ..

theorem hz : (![0, 0] : Fin 2 → Nat) = fun _ => 0 := funext fun a => by fin_cases a <;> rfl

theorem read_x (f : (cc0_stg0_0 : Ref sig .tc).ty.Contents (Elt F)) : (xM : Memref sig .tc .vmem S128x128 .bf16).view.readAt (Elt F) rX.toLoadRect f = f :=
  Memref.readAt_unit_zero (Elt F) cc0_stg0_0 hz _ f
theorem write_out (f w : (cc0_stg7_0 : Ref sig .tc).ty.Contents (Elt F)) :
    ((oM : Memref sig .tc .vmem S128x128 .f32).access rX : View sig .tc _ _ _).write (Elt F) f w Finset.univ = w :=
  Memref.write_access_unit_zero_univ (Elt F) cc0_stg7_0 hz _ f w

theorem wp_body {Q : PUnit → sProp 𝕄}
    {f0 : Buf (Elt F) ((xM : Memref sig .tc .vmem S128x128 .bf16).view.loc (c : Thread nD τ))} (h0 : f0 = I.x c)
    {f1 f2 f3 f4 f5 f6} (h1 : f1 = I.wi 0 c) (h2 : f2 = I.wo 0 c) (h3 : f3 = I.wi 1 c) (h4 : f4 = I.wo 1 c) (h5 : f5 = I.wi 2 c) (h6 : f6 = I.wo 2 c)
    (f7 : Buf (Elt F) ((oM : Memref sig .tc .vmem S128x128 .f32).view.loc (c : Thread nD τ))) :
    iprop(start I K c ∗ scratch (F := F) c ∗ owesE c (owedAll c)
      ∗ ((xM : Memref sig .tc .vmem S128x128 .bf16).view.loc (c : Thread nD τ) ↦{fullShare} f0)
      ∗ (((Memref.whole cc0_stg1_0 : Memref sig .tc .vmem S128x256 .bf16).view.loc (c : Thread nD τ) ↦{fullShare} f1) ∗ ((Memref.whole cc0_stg2_0 : Memref sig .tc .vmem S256x128 .bf16).view.loc (c : Thread nD τ) ↦{fullShare} f2))
      ∗ (((Memref.whole cc0_stg3_0 : Memref sig .tc .vmem S128x256 .bf16).view.loc (c : Thread nD τ) ↦{fullShare} f3) ∗ ((Memref.whole cc0_stg4_0 : Memref sig .tc .vmem S256x128 .bf16).view.loc (c : Thread nD τ) ↦{fullShare} f4))
      ∗ (((Memref.whole cc0_stg5_0 : Memref sig .tc .vmem S128x256 .bf16).view.loc (c : Thread nD τ) ↦{fullShare} f5) ∗ ((Memref.whole cc0_stg6_0 : Memref sig .tc .vmem S256x128 .bf16).view.loc (c : Thread nD τ) ↦{fullShare} f6))
      ∗ ((oM : Memref sig .tc .vmem S128x128 .f32).view.loc (c : Thread nD τ) ↦{fullShare} f7))
    ⊢ iprop(((closed (F := F) c ∗ scratch (F := F) c ∗ owesE c 0
      ∗ ((xM : Memref sig .tc .vmem S128x128 .bf16).view.loc (c : Thread nD τ) ↦{fullShare} f0)
      ∗ (((Memref.whole cc0_stg1_0 : Memref sig .tc .vmem S128x256 .bf16).view.loc (c : Thread nD τ) ↦{fullShare} f1) ∗ ((Memref.whole cc0_stg2_0 : Memref sig .tc .vmem S256x128 .bf16).view.loc (c : Thread nD τ) ↦{fullShare} f2))
      ∗ (((Memref.whole cc0_stg3_0 : Memref sig .tc .vmem S128x256 .bf16).view.loc (c : Thread nD τ) ↦{fullShare} f3) ∗ ((Memref.whole cc0_stg4_0 : Memref sig .tc .vmem S256x128 .bf16).view.loc (c : Thread nD τ) ↦{fullShare} f4))
      ∗ (((Memref.whole cc0_stg5_0 : Memref sig .tc .vmem S128x256 .bf16).view.loc (c : Thread nD τ) ↦{fullShare} f5) ∗ ((Memref.whole cc0_stg6_0 : Memref sig .tc .vmem S256x128 .bf16).view.loc (c : Thread nD τ) ↦{fullShare} f6))
      ∗ ((oM : Memref sig .tc .vmem S128x128 .f32).view.loc (c : Thread nD τ) ↦{fullShare} (res I 2 c : (cc0_stg7_0 : Ref sig .tc).ty.Contents (Elt F))))
        -∗ Q ⟨⟩) -∗ WP c loopBody Q) := by
  subst h0 h1 h2 h3 h4 h5 h6
  unfold start scratch loopBody
  iintro ⟨⟨#HC, Hbar, Hat, HtB, HcB, HT0, HT1, HT2⟩, ⟨HX, HG, HS⟩, HO, Hx, H12, H34, H56, H7⟩ Hk
  iapply (Entails.of_eq (wp_id (F := F) c _).symm)
  ihave HX := (slots_of_whole (F := F) xgM c xg_all) $$ HX
  ihave HX := (Entails.of_eq (bigSepL_cons' (0 : Fin 32) offs (slotAny (F := F) xgM c))) $$ HX
  icases HX with ⟨HX0, HX⟩
  ihave HG := (slots_of_whole (F := F) pgM c pg_all) $$ HG
  ihave HG := (Entails.of_eq (bigSepL_cons' (0 : Fin 32) offs (slotAny (F := F) pgM c))) $$ HG
  icases HG with ⟨HG0, HG⟩
  ihave HS := (slots_of_whole (F := F) psM c ps_all) $$ HS
  ihave HS := (Entails.of_eq (bigSepL_cons' (0 : Fin 32) offs (slotAny (F := F) psM c))) $$ HS
  icases HS with ⟨HS0, HS⟩
  -- the handshake
  ihave H := (Entails.of_eq (bigSepL_sep (F := F) offs (slotAny (F := F) xgM c) (fun o => dutyTok ER (barCell (c + o)) 0 (-o))).symm) $$ [HX HtB]
  · isplitl [HX] <;> iassumption
  unfold owedAll
  iapply (signals_loop I K c offs offs_ne (owedFrom c 0) _) $$ [H HO]
  · isplitr; · iexact HC
    isplitl [H] <;> iassumption
  iintro ⟨-, HO⟩
  iapply (wp_bar I K c _) $$ [Hbar HcB HO]
  · isplitr; · iexact HC
    isplitl [Hbar]; · iexact Hbar
    isplitl [HcB] <;> iassumption
  iintro ⟨Hbar, HX, HO⟩
  -- the first activations
  iapply (wp_load 𝒱₀ (c : Thread nD τ) none Set.univ (Finset.subset_univ _)) $$ Hx
  iintro Hx
  rw [read_x]
  iapply (wp_put0 c xgM (Memref.isWhole_whole _) _ _) $$ HX0
  iintro HX0
  -- the state between the layers
  ihave Hat := (Entails.of_eq ((own_eq (F := F) _).trans (bigSepL_cons' (0 : Fin 32) offs (at4 (F := F) c 0)))) $$ Hat
  icases Hat with ⟨Hat0, Hat⟩
  ihave H := (Entails.of_eq (bigSepL_sep (F := F) offs _ _).symm) $$ [HS Hat]
  · isplitl [HS] <;> iassumption
  ihave H := (Entails.of_eq (bigSepL_sep (F := F) offs _ _).symm) $$ [HX H]
  · isplitl [HX] <;> iassumption
  ihave H := (bigSepL_pers (F := F) (ctx I K) offs (A := fun o => iprop(slotAny (F := F) xgM (c + o) (-o) ∗ slotAny (F := F) psM c o ∗ at4 (F := F) c 0 o)) (B := rest0 (F := F) c 0) fun o _ => by
    unfold rest0 permit at4
    rw [if_pos (by decide)]
    iintro ⟨#HC, Hx, Hs, ⟨H1, H2⟩, H3, H4⟩
    isplitl [Hx]
    · isplitl [Hx]; · iexact Hx
      iapply (ctx_reached I K (c + o, iR 0 (-o))); iexact HC
    isplitl [Hs]; · iexact Hs
    isplitl [H1 H2 H3 H4]
    · isplitl [H1]; · iexact H1
      isplitl [H2]; · iexact H2
      isplitl [H3] <;> iassumption
    isplitr; · iapply (ctx_reached I K (c, iR 1 o)); iexact HC
    isplitr; · iapply (ctx_reached I K (c, iS 0 o)); iexact HC
    iapply (ctx_reached I K (c, iS 1 o)); iexact HC) $$ [H]
  · isplitr; · iexact HC
    iexact H
  ihave H := (Entails.of_eq (bigSepL_sep (F := F) offs _ _).symm) $$ [HG H]
  · isplitl [HG] <;> iassumption
  ihave H := (show iprop(slotPts xgM c fullShare 0 (act I 0 c) ∗ slotAny (F := F) pgM c 0 ∗ bigSepL offs (fun o => iprop(slotAny (F := F) pgM c o ∗ rest0 (F := F) c 0 o)) ∗ owesE c (owedFrom c 0))
    ⊢ between I c 0 by unfold between; iintro H; iexact H) $$ [HX0 HG0 H HO]
  · isplitl [HX0]; · iexact HX0
    isplitl [HG0]; · iexact HG0
    isplitl [H] <;> iassumption
  -- the layers
  iapply (wp_layer I K c (l := 0) (by decide) (Memref.readAt_unit_zero (Elt F) cc0_stg1_0 hz _ _) (Memref.readAt_unit_zero (Elt F) cc0_stg2_0 hz _ _) _) $$ [H12 H HT0]
  · isplitr; · iexact HC
    isplitl [H12]; · iexact H12
    isplitl [H] <;> iassumption
  iintro ⟨H12, H⟩
  iapply (wp_layer I K c (l := 1) (by decide) (Memref.readAt_unit_zero (Elt F) cc0_stg3_0 hz _ _) (Memref.readAt_unit_zero (Elt F) cc0_stg4_0 hz _ _) _) $$ [H34 H HT1]
  · isplitr; · iexact HC
    isplitl [H34]; · iexact H34
    isplitl [H] <;> iassumption
  iintro ⟨H34, H⟩
  iapply (wp_layer I K c (l := 2) (by decide) (Memref.readAt_unit_zero (Elt F) cc0_stg5_0 hz _ _) (Memref.readAt_unit_zero (Elt F) cc0_stg6_0 hz _ _) _) $$ [H56 H HT2]
  · isplitr; · iexact HC
    isplitl [H56]; · iexact H56
    isplitl [H] <;> iassumption
  iintro ⟨H56, H⟩
  -- the result
  iapply (wp_load 𝒱₀ (c : Thread nD τ) none Set.univ (m := oM) (Finset.subset_univ _)) $$ H7
  iintro H7
  iapply (wp_store 𝒱₀ (c : Thread nD τ) none Set.univ (m := oM) (r := rX) (Mk := Finset.univ) (Finset.subset_univ _)) $$ H7
  iintro H7
  rw [write_out, wp_ret]
  unfold between
  icases H with ⟨HX0, HG0, H, HO⟩
  ihave H := (Entails.of_eq (bigSepL_sep (F := F) offs _ _)) $$ H
  icases H with ⟨HG, H⟩
  ihave H := (bigSepL_mono (Φ := rest0 (F := F) c 3) (Ψ := fun o => iprop(slotAny (F := F) xgM c o ∗ slotAny (F := F) psM c o ∗ at4 (F := F) c 3 o)) fun o _ => by
    unfold rest0 permit at4
    rw [if_neg (by decide)]
    iintro ⟨Hx, Hs, ⟨H1, H2, H3, H4⟩, -⟩
    isplitl [Hx]; · iexact Hx
    isplitl [Hs]; · iexact Hs
    isplitl [H1 H2]
    · isplitl [H1] <;> iassumption
    · isplitl [H3] <;> iassumption) $$ H
  ihave H := (Entails.of_eq (bigSepL_sep (F := F) offs _ _)) $$ H
  icases H with ⟨HX, H⟩
  ihave H := (Entails.of_eq (bigSepL_sep (F := F) offs _ _)) $$ H
  icases H with ⟨HS, Hat⟩
  imod (close_all I K c) $$ [Hbar Hat0 Hat] with Hcl
  · isplitr; · iexact HC
    isplitl [Hbar]; · iexact Hbar
    isplitl [Hat0] <;> iassumption
  ihave HX0 := (slotPts_any xgM c 0 _) $$ HX0
  imodintro
  iapply Hk
  isplitl [Hcl]; · iexact Hcl
  isplitl [HX0 HX HG0 HG HS0 HS]
  · isplitl [HX0 HX]
    · iapply (whole_of_slots (F := F) xgM c xg_all)
      iapply (Entails.of_eq (bigSepL_cons' (0 : Fin 32) offs (slotAny (F := F) xgM c)).symm)
      isplitl [HX0] <;> iassumption
    isplitl [HG0 HG]
    · iapply (whole_of_slots (F := F) pgM c pg_all)
      iapply (Entails.of_eq (bigSepL_cons' (0 : Fin 32) offs (slotAny (F := F) pgM c)).symm)
      isplitl [HG0] <;> iassumption
    · iapply (whole_of_slots (F := F) psM c ps_all)
      iapply (Entails.of_eq (bigSepL_cons' (0 : Fin 32) offs (slotAny (F := F) psM c)).symm)
      isplitl [HS0] <;> iassumption
  isplitl [HO]; · rw [← owedFrom_three c]; iexact HO
  isplitl [Hx]; · iexact Hx
  isplitl [H12]; · iexact H12
  isplitl [H34]; · iexact H34
  isplitl [H56]; · iexact H56
  iexact H7

end Body

end Cert.KernelIdeal.Mlp

end
-- ==== Proof.Ideal.Deal.lean ====
/-
  The launch's ghost state: every cell's invariant allocated at once, the duty tokens dealt from the cells' own devices to
  the devices that pay with them, and the credit of the waits.
-/
module

public import proofs.«01_k».proof.Proof.Ideal.Body

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

/-! ## The devices and offsets, seen from the other end -/

/-- Device and offset, as the neighbour at that offset sees them. -/
def around : Dev nD × Fin 32 ≃ Dev nD × Fin 32 :=
  Function.Involutive.toPerm (fun p => (p.1 + p.2, -p.2)) fun p => Prod.ext (back p.1 p.2) (negneg p.2)

theorem deal_around (Ψ : Dev nD → Fin 32 → sProp 𝕄) :
    (bigSep Finset.univ fun c : Dev nD => bigSep Finset.univ fun o : Fin 32 => Ψ c o)
      = bigSep Finset.univ fun c : Dev nD => bigSep Finset.univ fun o : Fin 32 => Ψ (c + o) (-o) := by
  rw [← bigSep_univ_prod (fun p : Dev nD × Fin 32 => Ψ p.1 p.2), bigSep_univ_equiv around (fun p : Dev nD × Fin 32 => Ψ p.1 p.2), bigSep_univ_prod]
  rfl

theorem offs_neg (Φ : Fin 32 → sProp 𝕄) : (bigSepL offs fun o => Φ (-o)) = bigSepL offs Φ := by
  rw [← bigSep_eq_bigSepL_of_eq (S := Finset.univ.erase 0) offs (by decide) (by decide) Φ,
    bigSep_eq_bigSepL_of_eq (S := Finset.univ.erase 0) (offs.map fun o => -o) (by decide) (by decide) Φ]
  rfl

/-- A device's cells, the barrier first. -/
theorem cells_split (Φ : CI → sProp 𝕄) : bigSep Finset.univ Φ = iprop(Φ none ∗ bigSep Finset.univ fun i => Φ (some i)) := by
  rw [bigSep_univ_at Φ none, show (Finset.univ.erase none : Finset CI) = Finset.univ.map Function.Embedding.some from by
    ext i; rcases i with _ | i <;> simp, bigSep_map]
  rfl

/-! ## The credit -/

theorem launch_sum (f : Dev nD → Fin 32 → CellTallies nD τ sig ℕ) (c : Dev nD) (os : List (Fin 32)) :
    (Pipeline.launchCred (fun d => sumO os (f d)) c : sProp 𝕄) ⊢ bigSepL os fun o => Pipeline.launchCred (fun d => f d o) c := by
  induction os with
  | nil => rw [bigSepL_nil]; exact Entails.of_eq (Pipeline.launchCred_zero c)
  | cons o os ih =>
    simp only [sumO_cons]
    rw [Pipeline.launchCred_add, bigSepL_cons']
    iintro ⟨H, Ho⟩
    isplitl [Ho]; · iexact Ho
    iapply ih; iexact H

theorem sub_add (c : Dev nD) (o : Fin 32) : c + -o + o = c := by revert c o; decide +kernel

/-- A message at offset `o` from every device, seen at the receiver. -/
theorem launch_msg (s : Fin 32 → SemLoc sig) (ι n : ℕ) (c : Dev nD) :
    (Pipeline.launchCred (fun d : Dev nD => sumO offs fun o => tallyAt ((((d + o : Dev nD)) : Thread nD τ), s (-o)) ι n) c : sProp 𝕄)
      ⊢ bigSepL offs fun o => cred (tallyAt ((c : Thread nD τ), s o) ι n) :=
  (launch_sum _ c offs).trans ((bigSepL_mono fun o _ =>
    Pipeline.launchCred_tallyAt (s (-o)) (fun d => d + o) (fun d => d + -o) (fun d => sub_add d o) (fun d => back d o) ι n c).trans
      (Entails.of_eq (offs_neg fun o => cred (tallyAt ((c : Thread nD τ), s o) ι n))))

theorem cred_units (g : GSem nD τ sig) (os : List (Fin 32)) : (bigSepL os fun _ => (cred (tallyAt g 0 1) : sProp 𝕄)) ⊢ cred (tallyAt g 0 os.length) := by
  induction os with
  | nil => rw [bigSepL_nil, List.length_nil, tallyAt_zero, cred_zero]; exact BI.Entails.refl _
  | cons o os ih =>
    rw [bigSepL_cons', List.length_cons, ← tallyAt_add]
    iintro ⟨Ho, H⟩
    iapply (cred_add _ _).2
    isplitl [H]
    · iapply ih; iexact H
    · iexact Ho

/-- The credit of a layer's waits. -/
def credL (c : Dev nD) (l : ℕ) : sProp 𝕄 :=
  iprop((bigSepL offs fun o => cred (tallyAt (recvCell c 0 o) l N)) ∗ bigSepL offs fun o => cred (tallyAt (recvCell c 1 o) l N))

theorem launch_layer (c : Dev nD) {l : ℕ} (hl : l < 3) :
    (Pipeline.launchCred (fun d => owedFrom d l) c : sProp 𝕄) ⊢ iprop(credL c l ∗ Pipeline.launchCred (fun d => owedFrom d (l + 1)) c) := by
  rw [show (fun d => owedFrom d l) = fun d => owedFrom d (l + 1) + sumO offs (oP d l) + sumO offs (oX d l) from funext fun d => owedFrom_step d hl,
    Pipeline.launchCred_add, Pipeline.launchCred_add]
  unfold credL
  iintro ⟨⟨H, HP⟩, HX⟩
  isplitr [H]
  · isplitl [HX]
    · iapply (launch_msg (F := F) (fun o => .dma (recvAt 0 o)) l N c); iexact HX
    · iapply (launch_msg (F := F) (fun o => .dma (recvAt 1 o)) l N c); iexact HP
  · iexact H

theorem creds (c : Dev nD) :
    (Pipeline.launchCred owedAll c : sProp 𝕄) ⊢ iprop(cred (tallyAt (barCell c) 0 31) ∗ credL c 0 ∗ credL c 1 ∗ credL c 2) := by
  have h0 : (Pipeline.launchCred owedAll c : sProp 𝕄) = iprop(Pipeline.launchCred (fun d => owedFrom d 0) c ∗ Pipeline.launchCred (fun d => sumO offs (oB d)) c) :=
    Pipeline.launchCred_add _ _ c
  rw [h0]
  iintro ⟨H, HB⟩
  ihave H := (launch_layer (F := F) c (l := 0) (by decide)) $$ H
  icases H with ⟨H0, H⟩
  ihave H := (launch_layer (F := F) c (l := 1) (by decide)) $$ H
  icases H with ⟨H1, H⟩
  ihave H := (launch_layer (F := F) c (l := 2) (by decide)) $$ H
  icases H with ⟨H2, -⟩
  isplitl [HB]
  · iapply (cred_units (F := F) (barCell c) offs)
    iapply (launch_msg (F := F) (fun _ => .reg barS) 0 1 c); iexact HB
  isplitl [H0]; · iexact H0
  isplitl [H1] <;> iassumption

/-! ## The cells and the tokens at launch -/

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨kcell, kcell_injective⟩

/-- The duties of a device's cells, by offset: the barrier's, then a transfer cell's by layer. -/
abbrev TI : Type := Option (Bool × Fin 2 × Fin 3)
abbrev tokOf (p : Dev nD × Fin 32 × TI) : GSem nD τ sig × ℕ × Fin 32 :=
  match p.2.2 with
  | none => (barCell p.1, 0, p.2.1)
  | some (b, k, l) => (((p.1 : Thread nD τ), osem (b, k, p.2.1)), l.val, 0)
theorem tokOf_injective : Function.Injective tokOf := by
  rintro ⟨c, o, j⟩ ⟨c', o', j'⟩ h
  have h1 : c = c' := by
    have := congrArg (fun x : GSem nD τ sig × ℕ × Fin 32 => x.1.1.1) h
    rcases j with _ | ⟨b, k, l⟩ <;> rcases j' with _ | ⟨b', k', l'⟩ <;> exact this
  have hs := congrArg (fun x : GSem nD τ sig × ℕ × Fin 32 => x.1.2) h
  have hd := congrArg (fun x : GSem nD τ sig × ℕ × Fin 32 => x.2) h
  subst h1
  rcases j with _ | ⟨b, k, l⟩ <;> rcases j' with _ | ⟨b', k', l'⟩
  · have : o = o' := congrArg Prod.snd hd
    rw [this]
  · exact absurd hs.symm (osem_ne_bar _)
  · exact absurd hs (osem_ne_bar _)
  · have e := osem_injective hs
    have el : l = l' := Fin.ext (congrArg Prod.fst hd)
    simp only [Prod.mk.injEq] at e
    rw [e.1, e.2.1, e.2.2, el]
def allToks : Finset (GSem nD τ sig × ℕ × Fin 32) := Finset.univ.map ⟨tokOf, tokOf_injective⟩

/-- The duties a device pays itself at offset `o`: its sends'. -/
def sendToks (c : Dev nD) (o : Fin 32) : sProp 𝕄 :=
  bigSep Finset.univ fun p : Fin 2 × Fin 3 => dutyTok ER (sendCell c p.1 o) p.2.val 0
/-- The duties its neighbour at offset `o` pays. -/
def recvToks (c : Dev nD) (o : Fin 32) : sProp 𝕄 :=
  iprop(dutyTok ER (barCell c) 0 o ∗ bigSep Finset.univ fun p : Fin 2 × Fin 3 => dutyTok ER (recvCell c p.1 o) p.2.val 0)

theorem toks_split (c : Dev nD) (o : Fin 32) :
    (bigSep Finset.univ fun j : TI => (dutyTok ER (tokOf (c, o, j)).1 (tokOf (c, o, j)).2.1 (tokOf (c, o, j)).2.2 : sProp 𝕄))
      ⊢ iprop(sendToks (F := F) c o ∗ recvToks (F := F) c o) := by
  rw [bigSep_univ_at _ none, show (Finset.univ.erase none : Finset TI) = Finset.univ.map Function.Embedding.some from by
    ext i; rcases i with _ | i <;> simp, bigSep_map, bigSep_univ_prod, bigSep_bool]
  unfold sendToks recvToks
  iintro ⟨HB, HR, HS⟩
  isplitl [HS]; · iexact HS
  isplitl [HB]; · iexact HB
  iexact HR

/-- The tokens a device spends in layer `l` at offset `o`. -/
def pay (c : Dev nD) (l : ℕ) (o : Fin 32) : sProp 𝕄 :=
  iprop(dutyTok ER (sendCell c 0 o) l 0 ∗ dutyTok ER (recvCell (c + o) 0 (-o)) l 0
    ∗ dutyTok ER (sendCell c 1 o) l 0 ∗ dutyTok ER (recvCell (c + o) 1 (-o)) l 0)

theorem six (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

theorem pay_of (c : Dev nD) (o : Fin 32) :
    iprop(sendToks (F := F) c o ∗ recvToks (F := F) (c + o) (-o))
      ⊢ iprop(dutyTok ER (barCell (c + o)) 0 (-o) ∗ pay (F := F) c 0 o ∗ pay (F := F) c 1 o ∗ pay (F := F) c 2 o) := by
  unfold sendToks recvToks pay
  rw [six, six]
  iintro ⟨⟨S00, S01, S02, S10, S11, S12⟩, HB, R00, R01, R02, R10, R11, R12⟩
  isplitl [HB]; · iexact HB
  isplitl [S00 R00 S10 R10]
  · isplitl [S00]; · iexact S00
    isplitl [R00]; · iexact R00
    isplitl [S10]; · iexact S10
    iexact R10
  isplitl [S01 R01 S11 R11]
  · isplitl [S01]; · iexact S01
    isplitl [R01]; · iexact R01
    isplitl [S11]; · iexact S11
    iexact R11
  isplitl [S02]; · iexact S02
  isplitl [R02]; · iexact R02
  isplitl [S12]; · iexact S12
  iexact R12

/-- A device's own cells' tokens, -/
def minted (c : Dev nD) : sProp 𝕄 :=
  bigSep Finset.univ fun o : Fin 32 => bigSep Finset.univ fun j : TI => dutyTok ER (tokOf (c, o, j)).1 (tokOf (c, o, j)).2.1 (tokOf (c, o, j)).2.2
/-- and the tokens it spends. -/
def spent (c : Dev nD) : sProp 𝕄 :=
  iprop((bigSepL offs fun o => dutyTok ER (barCell (c + o)) 0 (-o)) ∗ bigSepL offs (pay (F := F) c 0) ∗ bigSepL offs (pay (F := F) c 1) ∗ bigSepL offs (pay (F := F) c 2))

theorem dealt : (bigSep Finset.univ fun c : Dev nD => minted (F := F) c) ⊢ bigSep Finset.univ fun c : Dev nD => spent (F := F) c := by
  unfold minted
  have h1 : (bigSep Finset.univ fun c : Dev nD => bigSep Finset.univ fun o : Fin 32 => bigSep Finset.univ fun j : TI =>
        (dutyTok ER (tokOf (c, o, j)).1 (tokOf (c, o, j)).2.1 (tokOf (c, o, j)).2.2 : sProp 𝕄))
      ⊢ iprop((bigSep Finset.univ fun c : Dev nD => bigSep Finset.univ fun o : Fin 32 => sendToks (F := F) c o)
        ∗ bigSep Finset.univ fun c : Dev nD => bigSep Finset.univ fun o : Fin 32 => recvToks (F := F) c o) := by
    rw [← bigSep_sep']
    refine bigSep_mono fun c _ => ?_
    rw [← bigSep_sep']
    exact bigSep_mono fun o _ => toks_split c o
  refine h1.trans ?_
  rw [deal_around (fun c o => recvToks (F := F) c o), ← bigSep_sep']
  refine bigSep_mono fun c _ => ?_
  rw [← bigSep_sep']
  refine (bigSep_mono fun o _ => pay_of (F := F) c o).trans ?_
  rw [all_offs, bigSepL_sep (F := F) offs, bigSepL_sep (F := F) offs, bigSepL_sep (F := F) offs]
  have drop (A B : sProp 𝕄) : iprop(A ∗ B) ⊢ B := by iintro ⟨-, H⟩; iexact H
  exact drop _ _

/-! ## The allocation -/

section Alloc
variable (I : Inp F)

/-- What the launch element deals device `c`, -/
def G (c : Dev nD) : sProp 𝕄 :=
  iprop((bigSep Finset.univ fun i : CI => roundState ER (rd I) (kcell (c, i)) 0)
    ∗ (bigSep Finset.univ fun i : CI => iprop(atPos ER (kcell (c, i)) 0 ∅ 0 ∗ reached ER (kcell (c, i)) 0)) ∗ minted (F := F) c)

/-- what is common to the devices, -/
def records (K : Dev nD × CI → ℕ) : sProp 𝕄 :=
  bigSep Finset.univ fun p : Dev nD × CI => iprop(cellInv ER (rd I) (K p) (kcell p) ∗ reached ER (kcell p) 0)
instance records_persistent (K : Dev nD × CI → ℕ) : BI.Persistent (records I K) := by unfold records; infer_instance

/-- what stays with device `c`, -/
def own (c : Dev nD) : sProp 𝕄 := iprop((bigSep Finset.univ fun i : CI => atR (F := F) (kcell (c, i)) 0) ∗ spent (F := F) c)
/-- and what the allocation makes of it. -/
def G' (c : Dev nD) : sProp 𝕄 := iprop(∃ K, records I K ∗ own (F := F) c)

theorem fund_cells : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]
    exact bigSep_congr fun c _ => by unfold minted; rw [bigSep_univ_prod]; rfl
  iintro HX
  imod (Rounds.fund ER (rd I) allCells allToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores at zero. -/
abbrev own0 (c : Dev nD) : sProp 𝕄 := Pipeline.ownSems0 (Ix := ℕ) (Name := ℕ) (U := UU) (Lvl := ℕ) (Val := Elt F) (τ := τ) osem c

theorem sems0_eq (c : Dev nD) : iprop(own0 (F := F) c ∗ unscopedSems0 c) ⊢ (bigSep Finset.univ fun i : CI => semVal (kcell (c, i)) 0 : sProp 𝕄) := by
  rw [unscopedSems0_eq, cells_split]
  unfold own0 Pipeline.ownSems0
  iintro ⟨HS, HB⟩
  isplitl [HB]; · iexact HB
  iexact HS

theorem core_alloc (c : Dev nD) :
    iprop(own0 (F := F) c ∗ unscopedSems0 c ∗ G I c)
      ⊢ |={Set.univ}=> iprop((bigSep Finset.univ fun i : CI => iprop(∃ κ : ℕ, cellInv ER (rd I) κ (kcell (c, i))))
          ∗ (bigSep Finset.univ fun i : CI => iprop(atPos ER (kcell (c, i)) 0 ∅ 0 ∗ reached ER (kcell (c, i)) 0)) ∗ minted (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd I) (kcell (c, i)) 0)
      ⊢ (|={Set.univ}=> bigSep Finset.univ fun i : CI => iprop(∃ κ : ℕ, cellInv ER (rd I) κ (kcell (c, i))) : sProp 𝕄) from by
        rw [← bigSep_sep']
        exact (bigSep_mono fun i _ => (Rounds.body_intro ER (rd I) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun i : CI => iprop(∃ κ : ℕ, cellInv ER (rd I) κ (kcell (c, i))))
          ∗ (bigSep Finset.univ fun i : CI => iprop(atPos ER (kcell (c, i)) 0 ∅ 0 ∗ reached ER (kcell (c, i)) 0)) ∗ minted (F := F) c) : sProp 𝕄)
      ⊢ bigSep Finset.univ (G' I) := by
  rw [bigSep_sep', bigSep_sep', ← bigSep_univ_prod (fun p : Dev nD × CI => iprop(∃ κ : ℕ, cellInv ER (rd I) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (rd I) κ (kcell p) : sProp 𝕄))) $$ HI
  icases HK with ⟨%K, #HI⟩
  ihave Htk := (dealt (F := F)) $$ Htok
  iapply (BI.bigSep_with_persistent (R := records I K) (Φ := fun c => own (F := F) c) fun c _ => show iprop(records I K ∗ own (F := F) c) ⊢ G' I c by
    unfold G'; iintro H; iexists K; iexact H)
  isplitr
  · unfold records; rw [bigSep_sep']; isplitl; · iexact HI
    iexact HR
  · unfold own; rw [bigSep_sep']
    isplitl [Hat]; · iexact Hat
    iexact Htk

/-- All devices' semaphores at once. -/
theorem glob : (bigSep Finset.univ fun c => iprop(own0 (F := F) c ∗ unscopedSems0 c ∗ G I c) : sProp 𝕄) ⊢ |={Set.univ}=> bigSep Finset.univ (G' I) :=
  ((bigSep_mono fun c _ => core_alloc I c).trans (bigSep_fupd _ _)).trans (BI.fupd_mono (regroup I))

/-- What a device starts from, of the allocation, the waits' order and the credit. -/
theorem start_of (c : Dev nD) : iprop(levAts L lv ∗ Pipeline.launchCred owedAll c ∗ G' I c) ⊢ iprop(∃ K, start I K c) := by
  have hk (l : ℕ) : iprop(bigSepL offs (pay (F := F) c l) ∗ credL (F := F) c l) ⊢ bigSepL offs (toks (F := F) c l) := by
    unfold credL
    rw [← bigSepL_sep (F := F) offs, ← bigSepL_sep (F := F) offs]
    refine bigSepL_mono fun o _ => ?_
    unfold pay toks
    iintro ⟨⟨H1, H2, H3, H4⟩, C0, C1⟩
    isplitl [H1]; · iexact H1
    isplitl [H2]; · iexact H2
    isplitl [C0]; · iexact C0
    isplitl [H3]; · iexact H3
    isplitl [H4] <;> iassumption
  unfold G' own spent records
  iintro ⟨#Hl, HC, ⟨%K, #HR, Hat, HB, P0, P1, P2⟩⟩
  ihave HC := (creds (F := F) c) $$ HC
  icases HC with ⟨CB, C0, C1, C2⟩
  ihave Hat := (Entails.of_eq (cells_split (F := F) _)) $$ Hat
  icases Hat with ⟨HaB, Hat⟩
  iexists K
  unfold start ctx
  isplitr
  · isplitr; · iexact HR
    iexact Hl
  isplitl [HaB]; · iexact HaB
  isplitl [Hat]; · iexact Hat
  isplitl [HB]; · iexact HB
  isplitl [CB]; · iexact CB
  isplitl [P0 C0]
  · iapply (hk 0); isplitl [P0] <;> iassumption
  isplitl [P1 C1]
  · iapply (hk 1); isplitl [P1] <;> iassumption
  iapply (hk 2); isplitl [P2] <;> iassumption

end Alloc

end Cert.KernelIdeal.Mlp

end
-- ==== Proof.Ideal.Launch.lean ====
/-
  The launch: the body under the pipeline, what every device starts from and ends with, and the run of the whole program.
-/
module

public import proofs.«01_k».proof.Proof.Ideal.Deal
public import proofs.«01_k».proof.Proof.Gen.KernelIdeal.Frame
public import Idealize.ShloMosaic.Lib.Pipeline.CollectiveSegs

@[expose] public section

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- What the memory holds for the devices to start from. -/
def inp : Inp F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg2))
    | _ => (win0_5.blk (0 : Fin 1)).view.read (Elt F) (m ((c : Thread nD τ).loc main_arg3))
  wo l c := match l with
    | 0 => (win0_2.blk (0 : Fin 1)).view.read (Elt F) (m ((c : Thread nD τ).loc main_arg4))
    | 1 => (win0_4.blk (0 : Fin 1)).view.read (Elt F) (m ((c : Thread nD τ).loc main_arg5))
    | _ => (win0_6.blk (0 : Fin 1)).view.read (Elt F) (m ((c : Thread nD τ).loc main_arg6))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop((∃ K, start (inp m) K c) ∗ scratch (F := F) c)
def Φ₁ (c : Dev nD) : sProp 𝕄 := iprop(closed (F := F) c ∗ scratch (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => res (inp m) 2 c
  Φ t := match t with
    | ⟨0, _⟩ => Φ₀ m c
    | ⟨_ + 1, _⟩ => Φ₁ (F := F) c
  q _ := fullShare
  owed t := match t with
    | ⟨0, _⟩ => owedAll c
    | ⟨_ + 1, _⟩ => 0

theorem before_0 (c : Dev nD) (d) : (dats m ρ 0 c).before (0 : Fin cfg0.W) t₀ d = (inp m).x c := by unfold Dat.before; rw [if_pos (fetch0_0 t₀)]; rfl
theorem before_1 (c : Dev nD) (d) : (dats m ρ 0 c).before (1 : Fin cfg0.W) t₀ d = (inp m).wi 0 c := by unfold Dat.before; rw [if_pos (fetch0_1 t₀)]; rfl
theorem before_2 (c : Dev nD) (d) : (dats m ρ 0 c).before (2 : Fin cfg0.W) t₀ d = (inp m).wo 0 c := by unfold Dat.before; rw [if_pos (fetch0_2 t₀)]; rfl
theorem before_3 (c : Dev nD) (d) : (dats m ρ 0 c).before (3 : Fin cfg0.W) t₀ d = (inp m).wi 1 c := by unfold Dat.before; rw [if_pos (fetch0_3 t₀)]; rfl
theorem before_4 (c : Dev nD) (d) : (dats m ρ 0 c).before (4 : Fin cfg0.W) t₀ d = (inp m).wo 1 c := by unfold Dat.before; rw [if_pos (fetch0_4 t₀)]; rfl
theorem before_5 (c : Dev nD) (d) : (dats m ρ 0 c).before (5 : Fin cfg0.W) t₀ d = (inp m).wi 2 c := by unfold Dat.before; rw [if_pos (fetch0_5 t₀)]; rfl
theorem before_6 (c : Dev nD) (d) : (dats m ρ 0 c).before (6 : Fin cfg0.W) t₀ d = (inp m).wo 2 c := by unfold Dat.before; rw [if_pos (fetch0_6 t₀)]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t₀.castSucc
    ∗ (∃ d, stg c cc0_stg0_0 ((dats m ρ 0 c).before (0 : Fin cfg0.W) t₀ d))
    ∗ (∃ d, stg c cc0_stg1_0 ((dats m ρ 0 c).before (1 : Fin cfg0.W) t₀ d))
    ∗ (∃ d, stg c cc0_stg2_0 ((dats m ρ 0 c).before (2 : Fin cfg0.W) t₀ d))
    ∗ (∃ d, stg c cc0_stg3_0 ((dats m ρ 0 c).before (3 : Fin cfg0.W) t₀ d))
    ∗ (∃ d, stg c cc0_stg4_0 ((dats m ρ 0 c).before (4 : Fin cfg0.W) t₀ d))
    ∗ (∃ d, stg c cc0_stg5_0 ((dats m ρ 0 c).before (5 : Fin cfg0.W) t₀ d))
    ∗ (∃ d, stg c cc0_stg6_0 ((dats m ρ 0 c).before (6 : Fin cfg0.W) t₀ d))
    ∗ (∃ d, stg c cc0_stg7_0 ((dats m ρ 0 c).before (7 : Fin cfg0.W) t₀ d)))

def bodyPost (c : Dev nD) : sProp 𝕄 :=
  iprop(Φ₁ (F := F) c ∗ (dats m ρ 0 c).owesAt 0 t₀.succ
    ∗ stg c cc0_stg0_0 ((inp m).x c) ∗ stg c cc0_stg1_0 ((inp m).wi 0 c) ∗ stg c cc0_stg2_0 ((inp m).wo 0 c)
    ∗ stg c cc0_stg3_0 ((inp m).wi 1 c) ∗ stg c cc0_stg4_0 ((inp m).wo 1 c) ∗ stg c cc0_stg5_0 ((inp m).wi 2 c) ∗ stg c cc0_stg6_0 ((inp m).wo 2 c)
    ∗ stg c cc0_stg7_0 (res (inp m) 2 c))

theorem sound_body (c : Dev nD) : bodyPre m ρ c ⊢ WP c printedBody fun _ => bodyPost m ρ c := by
  rw [body_eq]
  unfold bodyPre Φ₀ Dat.owesAt Pipeline.owesWithin
  simp only [before_0, before_1, before_2, before_3, before_4, before_5, before_6]
  rw [show (dats m ρ 0 c).owed t₀.castSucc = owedAll c from rfl]
  iintro ⟨⟨⟨%K, Hs⟩, Hscr⟩, ⟨%W, %hW, HO⟩, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩, ⟨%d6, %f6, %h6, H6⟩, ⟨%d7, %f7, %h7, H7⟩⟩
  iapply (wp_body (inp m) K c h0 h1 h2 h3 h4 h5 h6 f7) $$ [Hs Hscr HO H0 H1 H2 H3 H4 H5 H6 H7]
  · isplitl [Hs]; · iexact Hs
    isplitl [Hscr]; · iexact Hscr
    isplitl [HO]; · unfold owesE; iexists W; iexact HO
    isplitl [H0]; · iexact H0
    isplitl [H1 H2]
    · isplitl [H1]; · iexact H1
      iexact H2
    isplitl [H3 H4]
    · isplitl [H3]; · iexact H3
      iexact H4
    isplitl [H5 H6]
    · isplitl [H5]; · iexact H5
      iexact H6
    iexact H7
  iintro ⟨Hcl, Hscr, HO, H0, ⟨H1, H2⟩, ⟨H3, H4⟩, ⟨H5, H6⟩, H7⟩
  unfold owesE
  icases HO with ⟨%W', HO⟩
  unfold bodyPost Φ₁ Dat.owesAt Pipeline.owesWithin
  rw [show (dats m ρ 0 c).owed t₀.succ = 0 from rfl]
  isplitl [Hcl Hscr]
  · isplitl [Hcl] <;> iassumption
  isplitl [HO]
  · iexists W'
    isplitr; · ipureintro; exact fun _ _ => Or.inl trivial
    iexact HO
  isplitl [H0]
  · iexists _; isplitr; · (ipureintro; exact h0)
    iexact H0
  isplitl [H1]
  · iexists _; isplitr; · (ipureintro; exact h1)
    iexact H1
  isplitl [H2]
  · iexists _; isplitr; · (ipureintro; exact h2)
    iexact H2
  isplitl [H3]
  · iexists _; isplitr; · (ipureintro; exact h3)
    iexact H3
  isplitl [H4]
  · iexists _; isplitr; · (ipureintro; exact h4)
    iexact H4
  isplitl [H5]
  · iexists _; isplitr; · (ipureintro; exact h5)
    iexact H5
  isplitl [H6]
  · iexists _; isplitr; · (ipureintro; exact h6)
    iexact H6
  iexists _; isplitr; · (ipureintro; rfl)
  iexact H7

theorem args_eq : defs₀ (F := F) Proc.tc cfg0.body (cfg0.bodyArgs t₀ (cfg0.slots t₀)) = printedBody := by
  have h : defs₀ (F := F) Proc.tc cfg0.body (cfg0.bodyArgs t₀ (cfg0.slots t₀)) = bodyAt0 t₀ := rfl
  rw [h]; unfold bodyAt0; rw [cc0_body_eq_skeleton]

/-- The pipeline's obligation for the body on core `c`. -/
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  rw [args_eq]
  have h := sound_body m ρ c
  revert h
  generalize (printedBody : P F) = p
  exact fun h => h

/-! ## The launch -/

theorem ownSemFacts : Pipeline.OwnSemFacts cfg0.spec osem where
  isScoped := by decide +kernel
  inj := osem_injective
  disj := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

def begins (c : Dev nD) : sProp 𝕄 := iprop(∃ K, start (inp m) K c)

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' (inp m) c)
      ⊢ |={Set.univ}=> iprop(begins m c ∗ emp) := by
  iintro ⟨-, Hlev, Hcr, -, HG⟩
  imodintro
  isplitl
  · unfold begins
    iapply (start_of (inp m) c)
    isplitl [Hlev]; · iexact Hlev
    isplitl [Hcr] <;> iassumption
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ begins scratch
  iintro ⟨Hs, -, H0, H1, H2⟩
  isplitl [Hs]; · iexact Hs
  isplitl [H0]; · iexact H0
  isplitl [H1]; · iexact H1
  iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ closed scratch Pipeline.ownSems0
  iintro ⟨⟨HS, HB⟩, H0, H1, H2⟩
  isplitl [HB]; · iexact HB
  isplitl [HS]; · iexact HS
  isplitl [H0]; · iexact H0
  isplitl [H1]; · iexact H1
  iexact H2

/-- The staging semaphores are none of the kernel's own. -/
theorem lv_stage (c : Dev nD) (q : DmaSem sig) (hq : q.val < 8) (ι : ℕ) : lv ((c : Thread nD τ), .dma q) ι = 0 := by
  have h : ∀ (k : Fin 2) (o : Fin 32), 8 ≤ (sendAt k o).val ∧ 8 ≤ (recvAt k o).val := by decide +kernel
  unfold lv dec Function.partialInv
  rw [dif_neg]
  · rfl
  · rintro ⟨_ | ⟨b, k, o⟩, e⟩
    · cases e
    · have := h k o
      cases b
      · have e' : sendAt k o = q := SemLoc.dma.inj e
        rw [← e'] at hq; omega
      · have e' : recvAt k o = q := SemLoc.dma.inj e
        rw [← e'] at hq; omega

theorem waits (c : Dev nD) : (levAts L lv : sProp 𝕄) ⊢ Pipeline.cellsWaits cfgs (dats m ρ) 0 0 c :=
  Pipeline.cellsWaits_intro cfgs (dats m ρ) 0 0 c fun w s t =>
    mayWait (b := 0) c _ (by decide) (by rw [lv_stage c _ (by fin_cases w <;> fin_cases s <;> decide)]) (by
      rcases t with ⟨_ | _, ht⟩
      · exact above_all c
      · exact above_zero 0)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- From any memory with zero counters, every run of the program on the 32 devices ends, with each device's arrays at what
    the pipeline's data say and every counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := ?hmain)
    (hbody := ?hbody) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := begins m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)
  case hmain => exact fun _ => rfl
  case hbody => exact fun c => (body_obligation m ρ c).loose

/-! ## What the run leaves -/

/-- A device's arguments as they were. -/
theorem kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c (0 : Fin 8)).trans ((dats m ρ 0 c).arrAt_in 0 rfl _), (h c (1 : Fin 8)).trans ((dats m ρ 0 c).arrAt_in 1 rfl _),
    (h c (3 : Fin 8)).trans ((dats m ρ 0 c).arrAt_in 3 rfl _), (h c (5 : Fin 8)).trans ((dats m ρ 0 c).arrAt_in 5 rfl _),
    (h c (2 : Fin 8)).trans ((dats m ρ 0 c).arrAt_in 2 rfl _), (h c (4 : Fin 8)).trans ((dats m ρ 0 c).arrAt_in 4 rfl _),
    (h c (6 : Fin 8)).trans ((dats m ρ 0 c).arrAt_in 6 rfl _)⟩

end Cert.KernelIdeal.Mlp

end
-- ==== Proof.Frames.lean ====
/-
  The frames: each program ends on every run with its arguments as they were and every counter at zero.
-/
module

public import proofs.«01_k».proof.Defs
public import proofs.«01_k».proof.Proof.Launch
public import proofs.«01_k».proof.Proof.Ideal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ =>
  (θ_run Cert.Kernel.defs _ _).mono (fun _ h => ⟨fun c => Cert.Kernel.Mlp.kept m ρ h.1 c, h.2⟩) (Cert.Kernel.Mlp.run_main (F := Bits) m ρ)

theorem frame_kernel_ideal : Cert.quiescent_KernelIdeal := fun m ρ _ =>
  (θ_run Cert.KernelIdeal.defs _ _).mono (fun _ h => ⟨fun c => Cert.KernelIdeal.Mlp.kept m ρ h.1 c, h.2⟩) (Cert.KernelIdeal.Mlp.run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Ideal.Value.lean ====
/-
  The kernel's values over the reals: a group of slots through a layer's shard, read at an element; a layer's result as a sum
  over the devices; the activations layer by layer.
-/
module

public import proofs.«01_k».proof.Proof.Ideal.Launch
public import Idealize.ShloMosaic.PureOps.Ideal.Laws
public import Idealize.ShloMosaic.Lib.MatmulPlain
public import Idealize.ShloMosaic.Lib.ValueIdx

@[expose] public section

set_option maxRecDepth 16384

noncomputable section

namespace Cert.KernelIdeal.Mlp

open Idealize.ShloMosaic Idealize.ShloMosaic.TcCoe Idealize.SL.Sem
open Idealize.ShloMosaic.ValueIdx
open Cert.KernelIdeal.Gen
open scoped BigOperators

/-! ## A group of slots through a layer's shard -/

/-- Element `(a, b)` of `relu (x · wi) · wo`. -/
def cell (x : S128x128.Idx → EReal) (wi : S128x256.Idx → EReal) (wo : S256x128.Idx → EReal) (a b : Fin 128) : EReal :=
  ∑ k : Fin 256, max (∑ j : Fin 128, x (ix2 a j) * wi (ix2 j k)) 0 * wo (ix2 k b)

/-- Slot `i` of a group. -/
def slice {m : ℕ} (v : (⟨3, ![m, 128, 128]⟩ : Shape).Idx → EReal) (i : Fin m) : S128x128.Idx → EReal :=
  fun j => v (ix3 i (j 0) (j 1))

section Group
variable {m R : ℕ}

theorem row_lt (hR : R = m * 128) (i : Fin m) (a : Fin 128) : i.val * 128 + a.val < R := by
  have := i.isLt; have := a.isLt; omega

theorem merge_apply {α : Type} (hR : R = m * 128) (x : (⟨3, ![m, 128, 128]⟩ : Shape).Idx → α) (h : (⟨3, ![m, 128, 128]⟩ : Shape).ShapeCasts ⟨2, ![R, 128]⟩)
    (i : Fin m) (a b : Fin 128) : shapeCast ⟨2, ![R, 128]⟩ x h (ix2 (⟨_, row_lt hR i a⟩ : Fin R) b) = x (ix3 i a b) :=
  shapeCast_apply x h _ _ (by
    rw [Shape.rowMajor_val_three, Shape.rowMajor_val_two]
    rfl)

theorem split_apply {α : Type} (hR : R = m * 128) (y : (⟨2, ![R, 128]⟩ : Shape).Idx → α) (h : (⟨2, ![R, 128]⟩ : Shape).ShapeCasts ⟨3, ![m, 128, 128]⟩)
    (i : Fin m) (a b : Fin 128) : shapeCast ⟨3, ![m, 128, 128]⟩ y h (ix3 i a b) = y (ix2 (⟨_, row_lt hR i a⟩ : Fin R) b) :=
  shapeCast_apply y h _ _ (by
    rw [Shape.rowMajor_val_three, Shape.rowMajor_val_two]
    rfl)

/-- The two products on `R` rows. -/
def two (xs : FVec Ideal ⟨2, ![R, 128]⟩ .bf16) (wi : FVec Ideal S128x256 .bf16) (wo : FVec Ideal S256x128 .bf16) : FVec Ideal ⟨2, ![R, 128]⟩ .f32 :=
  matmul (DotDims.plain R 256 128) none
    (truncf .bf16 (maximumf (matmul (DotDims.plain R 128 256) none xs wi (constant _ .f32 0x00000000#32)) (broadcast _ (Scalar.ofBits .f32 0x00000000#32 : Ideal .f32)))
      bitsLt_bf16_f32) wo (constant _ .f32 0x00000000#32)

theorem two_apply (xs : FVec Ideal ⟨2, ![R, 128]⟩ .bf16) (wi : FVec Ideal S128x256 .bf16) (wo : FVec Ideal S256x128 .bf16) (r : Fin R) (b : Fin 128) :
    two xs wi wo (ix2 r b) = ∑ k : Fin 256, max (∑ j : Fin 128, xs (ix2 r j) * wi (ix2 j k)) 0 * wo (ix2 k b) := by
  unfold two
  simp only [matmul]
  rw [Ideal.matmul_plain_apply, constant_apply, Ideal.ofBits_zero_f32, zero_add]
  refine Finset.sum_congr rfl fun k _ => congrArg (· * _) ?_
  rw [truncf_apply, maximumf_apply, Ideal.matmul_plain_apply, constant_apply, Ideal.ofBits_zero_f32, zero_add, broadcast_apply]
  exact congrArg (max _) Ideal.ofBits_zero_f32

theorem group_apply (hR : R = m * 128) (v : FVec Ideal ⟨3, ![m, 128, 128]⟩ .bf16) (wi : FVec Ideal S128x256 .bf16) (wo : FVec Ideal S256x128 .bf16)
    (h : (⟨3, ![m, 128, 128]⟩ : Shape).ShapeCasts ⟨2, ![R, 128]⟩) (h' : (⟨2, ![R, 128]⟩ : Shape).ShapeCasts ⟨3, ![m, 128, 128]⟩)
    (i : Fin m) (a b : Fin 128) :
    shapeCast ⟨3, ![m, 128, 128]⟩ (two (shapeCast ⟨2, ![R, 128]⟩ v h) wi wo) h' (ix3 i a b) = cell (slice v i) wi wo a b := by
  rw [split_apply hR, two_apply]
  unfold cell
  refine Finset.sum_congr rfl fun k _ => congrArg (fun s => max s 0 * _) (Finset.sum_congr rfl fun j _ => ?_)
  rw [merge_apply hR]; rfl

end Group

theorem pay5_apply (wi : FVec Ideal S128x256 .bf16) (wo : FVec Ideal S256x128 .bf16) (v : Vec Ideal S1x128x128 .bf16) (i : Fin 1) (a b : Fin 128) :
    k0_pay5 wi wo v (ix3 i a b) = cell (slice v i) wi wo a b := by
  refine Eq.trans ?_ (group_apply (m := 1) (R := 128) rfl v wi wo shapeCasts_S1x128x128_S128x128 shapeCasts_S128x128_S1x128x128 i a b)
  unfold k0_pay5
  rw [shapeCast_self]
  rfl

theorem pay6_apply (wi : FVec Ideal S128x256 .bf16) (wo : FVec Ideal S256x128 .bf16) (v : Vec Ideal S7x128x128 .bf16) (i : Fin 7) (a b : Fin 128) :
    k0_pay6 wi wo v (ix3 i a b) = cell (slice v i) wi wo a b := by
  refine Eq.trans ?_ (group_apply (m := 7) (R := 896) rfl v wi wo shapeCasts_S7x128x128_S896x128 shapeCasts_S896x128_S7x128x128 i a b)
  unfold k0_pay6
  rw [shapeCast_self]
  rfl

theorem pay9_apply (wi : FVec Ideal S128x256 .bf16) (wo : FVec Ideal S256x128 .bf16) (v : Vec Ideal S8x128x128 .bf16) (i : Fin 8) (a b : Fin 128) :
    k0_pay9 wi wo v (ix3 i a b) = cell (slice v i) wi wo a b := by
  refine Eq.trans ?_ (group_apply (m := 8) (R := 1024) rfl v wi wo shapeCasts_S8x128x128_S1024x128 shapeCasts_S1024x128_S8x128x128 i a b)
  unfold k0_pay9
  rw [shapeCast_self]
  rfl

theorem pay3_eq (wi : Vec Ideal S128x256 .bf16) : k0_pay3 wi = wi := by unfold k0_pay3; exact shapeCast_self _ _
theorem pay4_eq (wo : Vec Ideal S256x128 .bf16) : k0_pay4 wo = wo := by unfold k0_pay4; exact shapeCast_self _ _

/-! ## The products slot by slot -/

theorem unrun_cell {lo m : ℕ} (hm : 0 < m) (o : Fin 32) (ho : lo ≤ o.val ∧ o.val < lo + m) (A : Fin 32 → Vec Ideal S128x128 .bf16)
    (wi : FVec Ideal S128x256 .bf16) (wo : FVec Ideal S256x128 .bf16) (f : Vec Ideal ⟨3, ![m, 128, 128]⟩ .bf16)
    (hf : ∀ (i : Fin m) (a b : Fin 128), f (ix3 i a b) = cell (slice (run lo m A) i) wi wo a b) (a b : Fin 128) :
    unrun lo m f hm o (ix2 a b) = cell (A o) wi wo a b := by
  have e : Fin.ofNat 32 (lo + (o.val - lo) % m) = o := Fin.ext (by
    show (lo + (o.val - lo) % m) % 32 = o.val
    have := o.isLt
    rw [Nat.mod_eq_of_lt (show o.val - lo < m by omega), show lo + (o.val - lo) = o.val by omega]; exact Nat.mod_eq_of_lt this)
  refine (hf _ a b).trans (congrArg (fun x => cell x wi wo a b) (funext fun j => ?_))
  obtain ⟨p, q, rfl⟩ := ex_ix2 j
  exact congrFun (congrArg A e) (ix2 p q)

theorem prods_apply (wi : Vec Ideal S128x256 .bf16) (wo : Vec Ideal S256x128 .bf16) (A : Fin 32 → Vec Ideal S128x128 .bf16) (o : Fin 32) (a b : Fin 128) :
    prods wi wo A o (ix2 a b) = cell (A o) wi wo a b := by
  have := o.isLt
  unfold prods
  rw [pay3_eq, pay4_eq]
  split
  · exact unrun_cell _ o (by omega) A wi wo _ (pay5_apply wi wo _) a b
  split
  · exact unrun_cell _ o (by omega) A wi wo _ (pay6_apply wi wo _) a b
  split
  · exact unrun_cell _ o (by omega) A wi wo _ (pay9_apply wi wo _) a b
  split
  · exact unrun_cell _ o (by omega) A wi wo _ (pay9_apply wi wo _) a b
  · exact unrun_cell _ o (by omega) A wi wo _ (pay9_apply wi wo _) a b

/-! ## A layer's result -/

theorem total_apply (B : Fin 32 → Vec Ideal S128x128 .bf16) (a b : Fin 128) : total B (ix2 a b) = ∑ o : Fin 32, (B o (ix2 a b) : EReal) := by
  unfold total k0_pay11
  refine (Ideal.multiReduction_add_single _ _ _ _ _ _).trans (Finset.sum_congr rfl fun (o : Fin 32) _ => ?_)
  have e : reduces_S32x128x128_S128x128.lift (ix2 a b) o = ix3 o a b := by
    funext d; apply Fin.ext
    match d with
    | ⟨0, _⟩ => rfl
    | ⟨1, _⟩ => rfl
    | ⟨2, _⟩ => rfl
  rw [e, extf_apply]
  have e' : Fin.ofNat 32 (0 + o.val) = o := Fin.ext (by show (0 + o.val) % 32 = o.val; have := o.isLt; omega)
  exact congrFun (congrArg B e') (ix2 a b)

variable (I : Inp Ideal)

/-- What device `d` adds to device `c`'s result. -/
def adds (l : ℕ) (c d : Dev nD) (a b : Fin 128) : EReal := cell (act I l c) (I.wi l d) (I.wo l d) a b

theorem part_apply (l : ℕ) (c : Dev nD) (o : Fin 32) (a b : Fin 128) :
    part I l (c + o) (-o) (ix2 a b) = adds I l c (c + o) a b := by
  unfold part adds
  refine (prods_apply _ _ _ _ a b).trans ?_
  exact congrArg (fun x => cell x _ _ a b) (congrArg (act I l) (back c o))

theorem res_apply (l : ℕ) (c : Dev nD) (a b : Fin 128) :
    res I l c (ix2 a b) = ∑ d : Dev nD, adds I l c d a b := by
  unfold res
  refine (total_apply _ a b).trans ?_
  refine Eq.trans (Finset.sum_congr rfl fun o _ => part_apply I l c o a b) ?_
  generalize adds I l c = f
  exact Equiv.sum_comp (Equiv.addLeft (c : Fin 32)) (fun d => f d a b)

theorem slot0_apply (v : Vec Ideal S1x128x128 .bf16) (a b : Fin 128) : unrun 0 1 v Nat.one_pos 0 (ix2 a b) = v (ix3 (0 : Fin 1) a b) := rfl

theorem act_zero_eq (c : Dev nD) : act I 0 c = I.x c := by
  funext j
  obtain ⟨a, b, rfl⟩ := ex_ix2 j
  show unrun 0 1 (k0_pay2 (I.x c)) Nat.one_pos 0 (ix2 a b) = _
  rw [slot0_apply]
  unfold k0_pay2
  simp only [shapeCast_self]
  exact shapeCast_ab_1ab_apply _ _ _ _ _

theorem act_succ_eq (l : ℕ) (c : Dev nD) : act I (l + 1) c = res I l c := by
  funext j
  obtain ⟨a, b, rfl⟩ := ex_ix2 j
  rw [act_succ]
  unfold next
  rw [slot0_apply]
  unfold k0_pay13 k0_pay12
  simp only [shapeCast_self]
  exact shapeCast_ab_1ab_apply _ _ _ _ _

/-! ## The arrays the run starts from and ends with -/

section Arrays
variable (m : (ℓ : Loc nD τ sig) → Buf (Elt Ideal) ℓ) (ρ : Dev nD → PrngReg)

/-! Each argument's window is the whole argument. -/

theorem inp_0 (c : Dev nD) : (inp m).x c = m ((c.tc : Thread nD τ).loc main_arg0) :=
  show (win0_0.blk (0 : Fin 1)).view.read (Elt Ideal) (m ((c.tc : Thread nD τ).loc main_arg0)) = m ((c.tc : Thread nD τ).loc main_arg0) from
  Memref.read_access_unit_zero (Elt Ideal) main_arg0 (off := fun a => win0_0.index (0 : Fin 1) a * main_arg0.ty.shape.size a)
    (funext fun a => by fin_cases a <;> decide) (fun a => by fin_cases a <;> decide) _
theorem inp_1 (c : Dev nD) : (inp m).wi 0 c = m ((c.tc : Thread nD τ).loc main_arg1) :=
  show (win0_1.blk (0 : Fin 1)).view.read (Elt Ideal) (m ((c.tc : Thread nD τ).loc main_arg1)) = m ((c.tc : Thread nD τ).loc main_arg1) from
  Memref.read_access_unit_zero (Elt Ideal) main_arg1 (off := fun a => win0_1.index (0 : Fin 1) a * main_arg1.ty.shape.size a)
    (funext fun a => by fin_cases a <;> decide) (fun a => by fin_cases a <;> decide) _
theorem inp_2 (c : Dev nD) : (inp m).wo 0 c = m ((c.tc : Thread nD τ).loc main_arg4) :=
  show (win0_2.blk (0 : Fin 1)).view.read (Elt Ideal) (m ((c.tc : Thread nD τ).loc main_arg4)) = m ((c.tc : Thread nD τ).loc main_arg4) from
  Memref.read_access_unit_zero (Elt Ideal) main_arg4 (off := fun a => win0_2.index (0 : Fin 1) a * main_arg4.ty.shape.size a)
    (funext fun a => by fin_cases a <;> decide) (fun a => by fin_cases a <;> decide) _
theorem inp_3 (c : Dev nD) : (inp m).wi 1 c = m ((c.tc : Thread nD τ).loc main_arg2) :=
  show (win0_3.blk (0 : Fin 1)).view.read (Elt Ideal) (m ((c.tc : Thread nD τ).loc main_arg2)) = m ((c.tc : Thread nD τ).loc main_arg2) from
  Memref.read_access_unit_zero (Elt Ideal) main_arg2 (off := fun a => win0_3.index (0 : Fin 1) a * main_arg2.ty.shape.size a)
    (funext fun a => by fin_cases a <;> decide) (fun a => by fin_cases a <;> decide) _
theorem inp_4 (c : Dev nD) : (inp m).wo 1 c = m ((c.tc : Thread nD τ).loc main_arg5) :=
  show (win0_4.blk (0 : Fin 1)).view.read (Elt Ideal) (m ((c.tc : Thread nD τ).loc main_arg5)) = m ((c.tc : Thread nD τ).loc main_arg5) from
  Memref.read_access_unit_zero (Elt Ideal) main_arg5 (off := fun a => win0_4.index (0 : Fin 1) a * main_arg5.ty.shape.size a)
    (funext fun a => by fin_cases a <;> decide) (fun a => by fin_cases a <;> decide) _
theorem inp_5 (c : Dev nD) : (inp m).wi 2 c = m ((c.tc : Thread nD τ).loc main_arg3) :=
  show (win0_5.blk (0 : Fin 1)).view.read (Elt Ideal) (m ((c.tc : Thread nD τ).loc main_arg3)) = m ((c.tc : Thread nD τ).loc main_arg3) from
  Memref.read_access_unit_zero (Elt Ideal) main_arg3 (off := fun a => win0_5.index (0 : Fin 1) a * main_arg3.ty.shape.size a)
    (funext fun a => by fin_cases a <;> decide) (fun a => by fin_cases a <;> decide) _
theorem inp_6 (c : Dev nD) : (inp m).wo 2 c = m ((c.tc : Thread nD τ).loc main_arg6) :=
  show (win0_6.blk (0 : Fin 1)).view.read (Elt Ideal) (m ((c.tc : Thread nD τ).loc main_arg6)) = m ((c.tc : Thread nD τ).loc main_arg6) from
  Memref.read_access_unit_zero (Elt Ideal) main_arg6 (off := fun a => win0_6.index (0 : Fin 1) a * main_arg6.ty.shape.size a)
    (funext fun a => by fin_cases a <;> decide) (fun a => by fin_cases a <;> decide) _

/-- The result buffer ends at the last layer's result. -/
theorem result_eq (c : Dev nD) : (dats m ρ 0 c).arrAt (7 : Fin 8) cfg0.N = res (inp m) 2 c := by
  have h : (win0_7.blk (0 : Fin 1)).view.read (Elt Ideal) ((dats m ρ 0 c).arrAt (7 : Fin 8) cfg0.N) = res (inp m) 2 c := by
    rw [show cfg0.N = ((0 : Fin 1) : Fin cfg0.N).val + 1 from rfl, (dats m ρ 0 c).arrAt_succ (7 : Fin 8) (0 : Fin 1)]
    rw [show (cfg0.win (7 : Fin 8)).flush (0 : Fin 1) = true from by decide, if_pos rfl]
    exact View.read_write_univ _ _
  refine Eq.trans ?_ h
  exact (Memref.read_access_unit_zero (Elt Ideal) main_v1 (funext fun a => by fin_cases a <;> decide) (fun a => by fin_cases a <;> decide) _).symm

end Arrays

end Cert.KernelIdeal.Mlp

end
-- ==== Proof.Reference.lean ====
/-
  The reference over the reals, layer by layer: a row block of a layer's result is the sum, over the 32 shards of the hidden
  axis, of the shards' products.
-/
module

public import proofs.«01_k».proof.Proof.Ideal.Value
public import proofs.«01_k».proof.Proof.Gen.ReferenceIdeal.Run
public import Idealize.ShloMosaic.Lib.StackMember
public import Idealize.ShloMosaic.Lib.Layout

@[expose] public section

set_option maxRecDepth 16384

noncomputable section

namespace Cert.Proof

open Idealize.ShloMosaic Idealize.ShloMosaic.TcCoe Idealize.SL.Sem
open Idealize.ShloMosaic.ValueIdx
open Cert.ReferenceIdeal Cert.ReferenceIdeal.Gen
open Cert.KernelIdeal.Mlp (cell)
open scoped BigOperators

/-- A layer as the reference computes it. -/
def layerR (x : FVec Ideal S4096x128 .bf16) (wi : FVec Ideal S128x8192 .bf16) (wo : FVec Ideal S8192x128 .bf16) : FVec Ideal S4096x128 .bf16 :=
  truncf .bf16 (Host.dotGeneral dot_S4096x8192_S8192x128_S4096x128_1_0_0_1_n_n none
    (maximumf (truncf .bf16 (Host.dotGeneral dot_S4096x128_S128x8192_S4096x8192_1_0_0_1_n_n none x wi) bitsLt_bf16_f32)
      (broadcastInDim S4096x8192 ![] bcast_S_S4096x8192 (constant S_ .bf16 0x0000#16))) wo) bitsLt_bf16_f32

theorem ofBits_zero_bf16 : Ideal.ofBits .bf16 0x0000#16 = 0 := by simp [Ideal.ofBits, Ideal.ieee]

theorem layerR_apply (x : FVec Ideal S4096x128 .bf16) (wi : FVec Ideal S128x8192 .bf16) (wo : FVec Ideal S8192x128 .bf16) (r : Fin 4096) (b : Fin 128) :
    layerR x wi wo (ix2 r b) = ∑ k : Fin 8192, max (∑ j : Fin 128, x (ix2 r j) * wi (ix2 j k)) 0 * wo (ix2 k b) := by
  unfold layerR
  rw [truncf_apply]
  refine (StackMember.dotGeneral_plain_apply (m := 4096) (k := 8192) (n := 128) none _ wo r b).trans (Finset.sum_congr rfl fun k _ => congrArg (· * _) ?_)
  rw [maximumf_apply, truncf_apply]
  refine congrArg₂ max (StackMember.dotGeneral_plain_apply (m := 4096) (k := 128) (n := 8192) none x wi r k) ?_
  exact ofBits_zero_bf16

/-! A device's rows of the activations, columns of the first matrix and rows of the second. -/

abbrev blkX (c : Fin 32) (x : S4096x128.Idx → EReal) : (⟨2, ![128, 128]⟩ : Shape).Idx → EReal := Layout.block ⟨2, ![128, 128]⟩ ⟨2, ![4096, 128]⟩ 0 32 c x
abbrev blkI (c : Fin 32) (x : S128x8192.Idx → EReal) : (⟨2, ![128, 256]⟩ : Shape).Idx → EReal := Layout.block ⟨2, ![128, 256]⟩ ⟨2, ![128, 8192]⟩ 1 32 c x
abbrev blkO (c : Fin 32) (x : S8192x128.Idx → EReal) : (⟨2, ![256, 128]⟩ : Shape).Idx → EReal := Layout.block ⟨2, ![256, 128]⟩ ⟨2, ![8192, 128]⟩ 0 32 c x

theorem rowOf_lt (c : Fin 32) (a : Fin 128) : c.val * 128 + a.val < 4096 := by omega
theorem hidOf_lt (d : Fin 32) (k : Fin 256) : d.val * 256 + k.val < 8192 := by omega

theorem blkX_apply (c : Fin 32) (x : S4096x128.Idx → EReal) (a b : Fin 128) : blkX c x (ix2 a b) = x (ix2 (⟨_, rowOf_lt c a⟩ : Fin 4096) b) := by
  refine congrArg x (funext fun d => Fin.ext ?_)
  match d with
  | ⟨0, _⟩ => rfl
  | ⟨1, _⟩ => rfl
theorem blkI_apply (c : Fin 32) (x : S128x8192.Idx → EReal) (a : Fin 128) (k : Fin 256) : blkI c x (ix2 a k) = x (ix2 a (⟨_, hidOf_lt c k⟩ : Fin 8192)) := by
  refine congrArg x (funext fun d => Fin.ext ?_)
  match d with
  | ⟨0, _⟩ => rfl
  | ⟨1, _⟩ => rfl
theorem blkO_apply (c : Fin 32) (x : S8192x128.Idx → EReal) (k : Fin 256) (b : Fin 128) : blkO c x (ix2 k b) = x (ix2 (⟨_, hidOf_lt c k⟩ : Fin 8192) b) := by
  refine congrArg x (funext fun d => Fin.ext ?_)
  match d with
  | ⟨0, _⟩ => rfl
  | ⟨1, _⟩ => rfl

/-- A sum over the hidden axis, shard by shard. -/
theorem sum_hid (f : Fin 8192 → EReal) : ∑ k : Fin 8192, f k = ∑ d : Fin 32, ∑ k : Fin 256, f ⟨_, hidOf_lt d k⟩ := by
  rw [← Equiv.sum_comp (finProdFinEquiv (m := 32) (n := 256)), Fintype.sum_prod_type]
  refine Finset.sum_congr rfl fun d _ => Finset.sum_congr rfl fun k _ => congrArg f (Fin.ext ?_)
  show k.val + 256 * d.val = d.val * 256 + k.val
  omega

/-- A row block of a layer's result: the 32 shards' products, added. -/
theorem layerR_block (x : FVec Ideal S4096x128 .bf16) (wi : FVec Ideal S128x8192 .bf16) (wo : FVec Ideal S8192x128 .bf16) (c : Fin 32) (a b : Fin 128) :
    blkX c (layerR x wi wo) (ix2 a b) = ∑ d : Fin 32, cell (blkX c x) (blkI d wi) (blkO d wo) a b := by
  rw [blkX_apply, layerR_apply, sum_hid]
  refine Finset.sum_congr rfl fun d _ => ?_
  unfold cell
  refine Finset.sum_congr rfl fun k _ => ?_
  rw [blkO_apply]
  refine congrArg (fun s => max s 0 * _) (Finset.sum_congr rfl fun j _ => ?_)
  rw [blkX_apply, blkI_apply]

/-! ## Three layers -/

section Layers
variable (I : Cert.KernelIdeal.Mlp.Inp Ideal)
variable (x : FVec Ideal S4096x128 .bf16) (wi : ℕ → FVec Ideal S128x8192 .bf16) (wo : ℕ → FVec Ideal S8192x128 .bf16)

/-- The reference's activations entering layer `l`. -/
def actR : ℕ → FVec Ideal S4096x128 .bf16
  | 0 => x
  | l + 1 => layerR (actR l) (wi l) (wo l)

theorem res_eq (l : ℕ) (ha : ∀ c : Fin 32, Cert.KernelIdeal.Mlp.act I l c = blkX c (actR x wi wo l))
    (hi : ∀ c : Fin 32, I.wi l c = blkI c (wi l)) (ho : ∀ c : Fin 32, I.wo l c = blkO c (wo l)) (c : Fin 32) :
    Cert.KernelIdeal.Mlp.res I l c = blkX c (actR x wi wo (l + 1)) := by
  funext j
  obtain ⟨a, b, rfl⟩ := Cert.KernelIdeal.Mlp.ex_ix2 j
  refine (Cert.KernelIdeal.Mlp.res_apply I l c a b).trans (Eq.trans ?_ (layerR_block _ _ _ c a b).symm)
  refine Finset.sum_congr rfl fun d _ => ?_
  unfold Cert.KernelIdeal.Mlp.adds
  rw [ha c, hi d, ho d]

/-- Device by device, the kernel's result is the reference's row block. -/
theorem layers_eq (hx : ∀ c : Fin 32, I.x c = blkX c x) (hi : ∀ (l : ℕ) (c : Fin 32), l < 3 → I.wi l c = blkI c (wi l))
    (ho : ∀ (l : ℕ) (c : Fin 32), l < 3 → I.wo l c = blkO c (wo l)) (c : Fin 32) :
    Cert.KernelIdeal.Mlp.res I 2 c = blkX c (actR x wi wo 3) := by
  have ha : ∀ l, l < 3 → ∀ c : Fin 32, Cert.KernelIdeal.Mlp.act I l c = blkX c (actR x wi wo l) := by
    intro l
    induction l with
    | zero => intro _ c; exact (Cert.KernelIdeal.Mlp.act_zero_eq I c).trans (hx c)
    | succ l ih =>
      intro hl c
      exact (Cert.KernelIdeal.Mlp.act_succ_eq I l c).trans
        (res_eq I x wi wo l (ih (by omega)) (fun c => hi l c (by omega)) (fun c => ho l c (by omega)) c)
  exact res_eq I x wi wo 2 (ha 2 (by omega)) (fun c => hi 2 c (by omega)) (fun c => ho 2 c (by omega)) c

end Layers

end Cert.Proof

end
-- ==== Proof.Algebraic.lean ====
/-
  The value claim: over the reals every device's result is its row block of the reference's.
-/
module

public import proofs.«01_k».proof.Defs
public import proofs.«01_k».proof.Proof.Reference

@[expose] public section

set_option maxRecDepth 16384

noncomputable section

namespace Cert.Proof

open Idealize.ShloMosaic Idealize.ShloMosaic.TcCoe Idealize.SL.Sem
open Idealize.ShloMosaic.ValueIdx
open Cert.ReferenceIdeal Cert.ReferenceIdeal.Gen

/-- Layer `l`'s matrices among three. -/
def pick {α : Type} (p q r : α) : ℕ → α
  | 0 => p
  | 1 => q
  | _ => r

theorem algebraic : Cert.algebraic_KernelIdeal_ReferenceIdeal := by
  intro m g m' g' _ hm
  refine ⟨extf .f32 (actR
      (m' (((0 : Dev nD).tc : Thread nD τ).loc main_arg0))
      (pick (m' (((0 : Dev nD).tc : Thread nD τ).loc main_arg1)) (m' (((0 : Dev nD).tc : Thread nD τ).loc main_arg2)) (m' (((0 : Dev nD).tc : Thread nD τ).loc main_arg3)))
      (pick (m' (((0 : Dev nD).tc : Thread nD τ).loc main_arg4)) (m' (((0 : Dev nD).tc : Thread nD τ).loc main_arg5)) (m' (((0 : Dev nD).tc : Thread nD τ).loc main_arg6)))
      3) bitsLt_bf16_f32, ?_, ?_⟩
  · refine (θ_run Cert.KernelIdeal.defs _ _).mono (fun r h c => ⟨?_, Cert.KernelIdeal.Mlp.kept m g h.1 c⟩) (Cert.KernelIdeal.Mlp.run_main (F := Ideal) m g)
    refine (h.1 c (7 : Fin 8)).trans ((Cert.KernelIdeal.Mlp.result_eq m g c).trans ?_)
    refine layers_eq (Cert.KernelIdeal.Mlp.inp m) _ (pick _ _ _) (pick _ _ _) (fun c => ?_) (fun l c hl => ?_) (fun l c hl => ?_) c
    · exact (Cert.KernelIdeal.Mlp.inp_0 m c).trans (hm c).1
    · match l, hl with
      | 0, _ => exact (Cert.KernelIdeal.Mlp.inp_1 m c).trans (hm c).2.1
      | 1, _ => exact (Cert.KernelIdeal.Mlp.inp_3 m c).trans (hm c).2.2.1
      | 2, _ => exact (Cert.KernelIdeal.Mlp.inp_5 m c).trans (hm c).2.2.2.1
    · match l, hl with
      | 0, _ => exact (Cert.KernelIdeal.Mlp.inp_2 m c).trans (hm c).2.2.2.2.1
      | 1, _ => exact (Cert.KernelIdeal.Mlp.inp_4 m c).trans (hm c).2.2.2.2.2.1
      | 2, _ => exact (Cert.KernelIdeal.Mlp.inp_6 m c).trans (hm c).2.2.2.2.2.2
  · refine (θ_run Cert.ReferenceIdeal.defs _ _).mono (fun r h => ?_) (Cert.ReferenceIdeal.Value.run (F := Ideal) m' g')
    exact ⟨(h (0 : Dev nD)).1, (h (0 : Dev nD)).2⟩

end Cert.Proof

end
-- ==== Proof.lean ====
/-
  The certificate's claims: the frames of the kernel at both float readings and of the reference, that the kernel read over
  the reals is the kernel's own text, and that over the reals every device's result is its row block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernel_ideal, frame_reference, trivial, algebraic⟩

end Cert.Proof

end
